-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S50000x35x8 : Shape := ⟨3, ![50000, 35, 8]⟩
abbrev S50000x35x1 : Shape := ⟨3, ![50000, 35, 1]⟩
abbrev S50000x35 : Shape := ⟨2, ![50000, 35]⟩
abbrev S_ : Shape := ⟨0, ![]⟩

class Facts : Prop where
  slices_S50000x35x8_S50000x35x1_0_0_7 : S50000x35x8.Slices ![0, 0, 7] S50000x35x1
  shapeCasts_S50000x35x1_S50000x35 : S50000x35x1.ShapeCasts S50000x35
  bcast_S_S50000x35 : S_.BroadcastsInDim S50000x35 (![] : Fin 0 → Fin S50000x35.rank)
  reducesTo_S50000x35_S_d0_1 : S50000x35.ReducesTo [0, 1] S_
  h_S_ : 0 < S_.numel

variable [Facts]

def fn {F : FTy → Type} [FloatOps F] (main_arg0 : FVec F S50000x35x8 .f32) : IVec S_ 1 :=
  let main_v0 : FVec F S50000x35x1 .f32 := (extractStridedSlice S50000x35x1 ![0, 0, 7] · slices_S50000x35x8_S50000x35x1_0_0_7) main_arg0
  let main_v1 : FVec F S50000x35 .f32 := shapeCast S50000x35 main_v0 shapeCasts_S50000x35x1_S50000x35
  let main_v2 : IVec S50000x35 32 := fptosi 32 main_v1
  let main_c : IVec S_ 32 := constantI S_ 32 0#32
  let main_v3 : IVec S50000x35 32 := broadcastInDim S50000x35 ![] bcast_S_S50000x35 main_c
  let main_v4 : IVec S50000x35 1 := cmpi .sge main_v2 main_v3
  let main_c_0 : IVec S_ 32 := constantI S_ 32 8#32
  let main_v5 : IVec S50000x35 32 := broadcastInDim S50000x35 ![] bcast_S_S50000x35 main_c_0
  let main_v6 : IVec S50000x35 1 := cmpi .slt main_v2 main_v5
  let main_v7 : IVec S50000x35 1 := andi main_v4 main_v6
  let main_c_1 : IVec S_ 1 := constantI S_ 1 1#1
  let main_v8 : IVec S_ 1 := (fun x v => Host.reduce IntOp.andi x v reducesTo_S50000x35_S_d0_1 h_S_) main_v7 main_c_1
  main_v8
-- ==== Kernel.lean ====
abbrev S50000x35x8 : Shape := ⟨3, ![50000, 35, 8]⟩
abbrev S35x8x50000 : Shape := ⟨3, ![35, 8, 50000]⟩
abbrev S50000 : Shape := ⟨1, ![50000]⟩
abbrev S160x128 : Shape := ⟨2, ![160, 128]⟩
abbrev S35x80 : Shape := ⟨2, ![35, 80]⟩
abbrev S16x128 : Shape := ⟨2, ![16, 128]⟩
abbrev S_ : Shape := ⟨0, ![]⟩
abbrev S16 : Shape := ⟨1, ![16]⟩
abbrev S35x128 : Shape := ⟨2, ![35, 128]⟩
abbrev S35x1x128 : Shape := ⟨3, ![35, 1, 128]⟩
abbrev S1x128 : Shape := ⟨2, ![1, 128]⟩
abbrev S128 : Shape := ⟨1, ![128]⟩
abbrev S1x16 : Shape := ⟨2, ![1, 16]⟩
abbrev S35x1x80 : Shape := ⟨3, ![35, 1, 80]⟩
abbrev S1x80 : Shape := ⟨2, ![1, 80]⟩
abbrev S80 : Shape := ⟨1, ![80]⟩
abbrev S50000x1 : Shape := ⟨2, ![50000, 1]⟩

abbrev nBuf : Table → Nat
  | .hbm => 4
  | .local .scVector .vmem => 3
  | _ => 0

abbrev bufTy : (tb : Table) → Fin (nBuf tb) → BufTy
  | .hbm, ⟨0, _⟩ => ⟨S50000x35x8, .f32⟩
  | .hbm, ⟨1, _⟩ => ⟨S35x8x50000, .f32⟩
  | .hbm, ⟨2, _⟩ => ⟨S50000, .i32⟩
  | .hbm, ⟨3, _⟩ => ⟨S50000x1, .i32⟩
  | .local .scVector .vmem, ⟨0, _⟩ => ⟨S160x128, .f32⟩
  | .local .scVector .vmem, ⟨1, _⟩ => ⟨S35x80, .f32⟩
  | .local .scVector .vmem, ⟨2, _⟩ => ⟨S16x128, .i32⟩
  | _, _ => ⟨S50000x35x8, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_0 : BitVec 32) : Fin 3 → Nat :=
  let c0_i32_4 : BitVec 32 := 0#32
  let c7_i32_1 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi c0_i32_0 v1
  let c128_i32 : BitVec 32 := 128#32
  let v7 : BitVec 32 := Scalar.muli v6 c128_i32
  ![0, 7, v7.toNat]
@[reducible] def k0_t1_loop : Scf.Loop 32 :=
  let c0_i32_23 : BitVec 32 := 0#32
  let c13_i32 : BitVec 32 := 13#32
  let v30 : BitVec 32 := Scalar.addi c0_i32_23 c13_i32
  let c1_i32_24 : BitVec 32 := 1#32
  ⟨c0_i32_23, v30, c1_i32_24⟩
def k0_cond1 (i : grid0.Coords) (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c4_i32 : BitVec 32 := 4#32
  let v65 : BitVec 32 := Scalar.addi arg13 c4_i32
  let c1_i32_44 : BitVec 32 := 1#32
  let v66 : BitVec 32 := Scalar.subi v65 c1_i32_44
  let c32_i32_45 : BitVec 32 := 32#32
  let v67 : BitVec 32 := Scalar.muli v66 c32_i32_45
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v68 : BitVec 32 := Scalar.addi v67 v1
  let c390_i32_46 : BitVec 32 := 390#32
  let v69 : BitVec 1 := Scalar.cmpi .slt v68 c390_i32_46
  let v70 : BitVec 32 := Scalar.extui v69
  let c0_i32_47 : BitVec 32 := 0#32
  let v71 : BitVec 1 := Scalar.cmpi .ne v70 c0_i32_47
  v71

def k0_cond2 (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c4_i32_51 : BitVec 32 := 4#32
  let v77 : BitVec 32 := Scalar.addi arg13 c4_i32_51
  let c1_i32_52 : BitVec 32 := 1#32
  let v78 : BitVec 32 := Scalar.subi v77 c1_i32_52
  let c3_i32_53 : BitVec 32 := 3#32
  let v79 : BitVec 32 := Scalar.andi v78 c3_i32_53
  let c0_i32_54 : BitVec 32 := 0#32
  let v80 : BitVec 1 := Scalar.cmpi .eq v79 c0_i32_54
  let v81 : BitVec 32 := Scalar.extui v80
  let c0_i32_55 : BitVec 32 := 0#32
  let v82 : BitVec 1 := Scalar.cmpi .ne v81 c0_i32_55
  v82

def k0_off2 (i : grid0.Coords) (k0_t1 : Fin k0_t1_loop.trips) : Fin 3 → Nat :=
  let c0_i32_69 : BitVec 32 := 0#32
  let c7_i32_66 : BitVec 32 := 7#32
  let c0_i32_23 : BitVec 32 := 0#32
  let c1_i32_24 : BitVec 32 := 1#32
  let arg13 : BitVec 32 := Scf.iv c0_i32_23 c1_i32_24 k0_t1
  let c4_i32_62 : BitVec 32 := 4#32
  let v92 : BitVec 32 := Scalar.addi arg13 c4_i32_62
  let c1_i32_63 : BitVec 32 := 1#32
  let v93 : BitVec 32 := Scalar.subi v92 c1_i32_63
  let c32_i32_64 : BitVec 32 := 32#32
  let v94 : BitVec 32 := Scalar.muli v93 c32_i32_64
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v95 : BitVec 32 := Scalar.addi v94 v1
  let c128_i32_65 : BitVec 32 := 128#32
  let v96 : BitVec 32 := Scalar.muli v95 c128_i32_65
  ![0, 7, v96.toNat]
def k0_cond3 (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c4_i32_51 : BitVec 32 := 4#32
  let v77 : BitVec 32 := Scalar.addi arg13 c4_i32_51
  let c1_i32_52 : BitVec 32 := 1#32
  let v78 : BitVec 32 := Scalar.subi v77 c1_i32_52
  let c3_i32_53 : BitVec 32 := 3#32
  let v79 : BitVec 32 := Scalar.andi v78 c3_i32_53
  let c1_i32_56 : BitVec 32 := 1#32
  let v83 : BitVec 1 := Scalar.cmpi .eq v79 c1_i32_56
  let v84 : BitVec 32 := Scalar.extui v83
  let c0_i32_57 : BitVec 32 := 0#32
  let v85 : BitVec 1 := Scalar.cmpi .ne v84 c0_i32_57
  v85

def k0_off3 (i : grid0.Coords) (k0_t1 : Fin k0_t1_loop.trips) : Fin 3 → Nat :=
  let c0_i32_69 : BitVec 32 := 0#32
  let c7_i32_66 : BitVec 32 := 7#32
  let c0_i32_23 : BitVec 32 := 0#32
  let c1_i32_24 : BitVec 32 := 1#32
  let arg13 : BitVec 32 := Scf.iv c0_i32_23 c1_i32_24 k0_t1
  let c4_i32_62 : BitVec 32 := 4#32
  let v92 : BitVec 32 := Scalar.addi arg13 c4_i32_62
  let c1_i32_63 : BitVec 32 := 1#32
  let v93 : BitVec 32 := Scalar.subi v92 c1_i32_63
  let c32_i32_64 : BitVec 32 := 32#32
  let v94 : BitVec 32 := Scalar.muli v93 c32_i32_64
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v95 : BitVec 32 := Scalar.addi v94 v1
  let c128_i32_65 : BitVec 32 := 128#32
  let v96 : BitVec 32 := Scalar.muli v95 c128_i32_65
  ![0, 7, v96.toNat]
def k0_cond4 (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c4_i32_51 : BitVec 32 := 4#32
  let v77 : BitVec 32 := Scalar.addi arg13 c4_i32_51
  let c1_i32_52 : BitVec 32 := 1#32
  let v78 : BitVec 32 := Scalar.subi v77 c1_i32_52
  let c3_i32_53 : BitVec 32 := 3#32
  let v79 : BitVec 32 := Scalar.andi v78 c3_i32_53
  let c2_i32_58 : BitVec 32 := 2#32
  let v86 : BitVec 1 := Scalar.cmpi .eq v79 c2_i32_58
  let v87 : BitVec 32 := Scalar.extui v86
  let c0_i32_59 : BitVec 32 := 0#32
  let v88 : BitVec 1 := Scalar.cmpi .ne v87 c0_i32_59
  v88

def k0_off4 (i : grid0.Coords) (k0_t1 : Fin k0_t1_loop.trips) : Fin 3 → Nat :=
  let c0_i32_69 : BitVec 32 := 0#32
  let c7_i32_66 : BitVec 32 := 7#32
  let c0_i32_23 : BitVec 32 := 0#32
  let c1_i32_24 : BitVec 32 := 1#32
  let arg13 : BitVec 32 := Scf.iv c0_i32_23 c1_i32_24 k0_t1
  let c4_i32_62 : BitVec 32 := 4#32
  let v92 : BitVec 32 := Scalar.addi arg13 c4_i32_62
  let c1_i32_63 : BitVec 32 := 1#32
  let v93 : BitVec 32 := Scalar.subi v92 c1_i32_63
  let c32_i32_64 : BitVec 32 := 32#32
  let v94 : BitVec 32 := Scalar.muli v93 c32_i32_64
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v95 : BitVec 32 := Scalar.addi v94 v1
  let c128_i32_65 : BitVec 32 := 128#32
  let v96 : BitVec 32 := Scalar.muli v95 c128_i32_65
  ![0, 7, v96.toNat]
def k0_cond5 (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c4_i32_51 : BitVec 32 := 4#32
  let v77 : BitVec 32 := Scalar.addi arg13 c4_i32_51
  let c1_i32_52 : BitVec 32 := 1#32
  let v78 : BitVec 32 := Scalar.subi v77 c1_i32_52
  let c3_i32_53 : BitVec 32 := 3#32
  let v79 : BitVec 32 := Scalar.andi v78 c3_i32_53
  let c3_i32_60 : BitVec 32 := 3#32
  let v89 : BitVec 1 := Scalar.cmpi .eq v79 c3_i32_60
  let v90 : BitVec 32 := Scalar.extui v89
  let c0_i32_61 : BitVec 32 := 0#32
  let v91 : BitVec 1 := Scalar.cmpi .ne v90 c0_i32_61
  v91

def k0_off5 (i : grid0.Coords) (k0_t1 : Fin k0_t1_loop.trips) : Fin 3 → Nat :=
  let c0_i32_68 : BitVec 32 := 0#32
  let c7_i32_66 : BitVec 32 := 7#32
  let c0_i32_23 : BitVec 32 := 0#32
  let c1_i32_24 : BitVec 32 := 1#32
  let arg13 : BitVec 32 := Scf.iv c0_i32_23 c1_i32_24 k0_t1
  let c4_i32_62 : BitVec 32 := 4#32
  let v92 : BitVec 32 := Scalar.addi arg13 c4_i32_62
  let c1_i32_63 : BitVec 32 := 1#32
  let v93 : BitVec 32 := Scalar.subi v92 c1_i32_63
  let c32_i32_64 : BitVec 32 := 32#32
  let v94 : BitVec 32 := Scalar.muli v93 c32_i32_64
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v95 : BitVec 32 := Scalar.addi v94 v1
  let c128_i32_65 : BitVec 32 := 128#32
  let v96 : BitVec 32 := Scalar.muli v95 c128_i32_65
  ![0, 7, v96.toNat]
def k0_cond6 (i : grid0.Coords) (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c32_i32_48 : BitVec 32 := 32#32
  let v72 : BitVec 32 := Scalar.muli arg13 c32_i32_48
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v73 : BitVec 32 := Scalar.addi v72 v1
  let c390_i32_49 : BitVec 32 := 390#32
  let v74 : BitVec 1 := Scalar.cmpi .slt v73 c390_i32_49
  let v75 : BitVec 32 := Scalar.extui v74
  let c0_i32_50 : BitVec 32 := 0#32
  let v76 : BitVec 1 := Scalar.cmpi .ne v75 c0_i32_50
  v76

def k0_cond7 (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c3_i32 : BitVec 32 := 3#32
  let v63 : BitVec 32 := Scalar.andi arg13 c3_i32
  let c0_i32_51 : BitVec 32 := 0#32
  let v77 : BitVec 1 := Scalar.cmpi .eq v63 c0_i32_51
  let v78 : BitVec 32 := Scalar.extui v77
  let c0_i32_52 : BitVec 32 := 0#32
  let v79 : BitVec 1 := Scalar.cmpi .ne v78 c0_i32_52
  v79

def k0_off6 (i : grid0.Coords) (k0_t1 : Fin k0_t1_loop.trips) : Fin 3 → Nat :=
  let c0_i32_77 : BitVec 32 := 0#32
  let c7_i32_74 : BitVec 32 := 7#32
  let c0_i32_23 : BitVec 32 := 0#32
  let c1_i32_24 : BitVec 32 := 1#32
  let arg13 : BitVec 32 := Scf.iv c0_i32_23 c1_i32_24 k0_t1
  let c32_i32_72 : BitVec 32 := 32#32
  let v101 : BitVec 32 := Scalar.muli arg13 c32_i32_72
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v102 : BitVec 32 := Scalar.addi v101 v1
  let c128_i32_73 : BitVec 32 := 128#32
  let v103 : BitVec 32 := Scalar.muli v102 c128_i32_73
  ![0, 7, v103.toNat]
def k0_cond8 (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c3_i32 : BitVec 32 := 3#32
  let v63 : BitVec 32 := Scalar.andi arg13 c3_i32
  let c1_i32_53 : BitVec 32 := 1#32
  let v80 : BitVec 1 := Scalar.cmpi .eq v63 c1_i32_53
  let v81 : BitVec 32 := Scalar.extui v80
  let c0_i32_54 : BitVec 32 := 0#32
  let v82 : BitVec 1 := Scalar.cmpi .ne v81 c0_i32_54
  v82

def k0_off7 (i : grid0.Coords) (k0_t1 : Fin k0_t1_loop.trips) : Fin 3 → Nat :=
  let c0_i32_77 : BitVec 32 := 0#32
  let c7_i32_74 : BitVec 32 := 7#32
  let c0_i32_23 : BitVec 32 := 0#32
  let c1_i32_24 : BitVec 32 := 1#32
  let arg13 : BitVec 32 := Scf.iv c0_i32_23 c1_i32_24 k0_t1
  let c32_i32_72 : BitVec 32 := 32#32
  let v101 : BitVec 32 := Scalar.muli arg13 c32_i32_72
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v102 : BitVec 32 := Scalar.addi v101 v1
  let c128_i32_73 : BitVec 32 := 128#32
  let v103 : BitVec 32 := Scalar.muli v102 c128_i32_73
  ![0, 7, v103.toNat]
def k0_cond9 (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c3_i32 : BitVec 32 := 3#32
  let v63 : BitVec 32 := Scalar.andi arg13 c3_i32
  let c2_i32_55 : BitVec 32 := 2#32
  let v83 : BitVec 1 := Scalar.cmpi .eq v63 c2_i32_55
  let v84 : BitVec 32 := Scalar.extui v83
  let c0_i32_56 : BitVec 32 := 0#32
  let v85 : BitVec 1 := Scalar.cmpi .ne v84 c0_i32_56
  v85

def k0_off8 (i : grid0.Coords) (k0_t1 : Fin k0_t1_loop.trips) : Fin 3 → Nat :=
  let c0_i32_77 : BitVec 32 := 0#32
  let c7_i32_74 : BitVec 32 := 7#32
  let c0_i32_23 : BitVec 32 := 0#32
  let c1_i32_24 : BitVec 32 := 1#32
  let arg13 : BitVec 32 := Scf.iv c0_i32_23 c1_i32_24 k0_t1
  let c32_i32_72 : BitVec 32 := 32#32
  let v101 : BitVec 32 := Scalar.muli arg13 c32_i32_72
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v102 : BitVec 32 := Scalar.addi v101 v1
  let c128_i32_73 : BitVec 32 := 128#32
  let v103 : BitVec 32 := Scalar.muli v102 c128_i32_73
  ![0, 7, v103.toNat]
def k0_cond10 (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c3_i32 : BitVec 32 := 3#32
  let v63 : BitVec 32 := Scalar.andi arg13 c3_i32
  let c3_i32_57 : BitVec 32 := 3#32
  let v86 : BitVec 1 := Scalar.cmpi .eq v63 c3_i32_57
  let v87 : BitVec 32 := Scalar.extui v86
  let c0_i32_58 : BitVec 32 := 0#32
  let v88 : BitVec 1 := Scalar.cmpi .ne v87 c0_i32_58
  v88

def k0_off9 (i : grid0.Coords) (k0_t1 : Fin k0_t1_loop.trips) : Fin 3 → Nat :=
  let c0_i32_76 : BitVec 32 := 0#32
  let c7_i32_74 : BitVec 32 := 7#32
  let c0_i32_23 : BitVec 32 := 0#32
  let c1_i32_24 : BitVec 32 := 1#32
  let arg13 : BitVec 32 := Scf.iv c0_i32_23 c1_i32_24 k0_t1
  let c32_i32_72 : BitVec 32 := 32#32
  let v101 : BitVec 32 := Scalar.muli arg13 c32_i32_72
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v102 : BitVec 32 := Scalar.addi v101 v1
  let c128_i32_73 : BitVec 32 := 128#32
  let v103 : BitVec 32 := Scalar.muli v102 c128_i32_73
  ![0, 7, v103.toNat]
def k0_cond11 (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c2_i32_59 : BitVec 32 := 2#32
  let v89 : BitVec 1 := Scalar.cmpi .sge arg13 c2_i32_59
  let v90 : BitVec 32 := Scalar.extui v89
  let c0_i32_60 : BitVec 32 := 0#32
  let v91 : BitVec 1 := Scalar.cmpi .ne v90 c0_i32_60
  v91

def k0_cond12 (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c1_i32_43 : BitVec 32 := 1#32
  let v64 : BitVec 32 := Scalar.andi arg13 c1_i32_43
  let c0_i32_72 : BitVec 32 := 0#32
  let v101 : BitVec 1 := Scalar.cmpi .eq v64 c0_i32_72
  let v102 : BitVec 32 := Scalar.extui v101
  let c0_i32_73 : BitVec 32 := 0#32
  let v103 : BitVec 1 := Scalar.cmpi .ne v102 c0_i32_73
  v103

def k0_off10 (i : grid0.Coords) (k0_t1 : Fin k0_t1_loop.trips) : Fin 1 → Nat :=
  let c0_i32_23 : BitVec 32 := 0#32
  let c1_i32_24 : BitVec 32 := 1#32
  let arg13 : BitVec 32 := Scf.iv c0_i32_23 c1_i32_24 k0_t1
  let c2_i32_76 : BitVec 32 := 2#32
  let v107 : BitVec 32 := Scalar.subi arg13 c2_i32_76
  let c32_i32_77 : BitVec 32 := 32#32
  let v108 : BitVec 32 := Scalar.muli v107 c32_i32_77
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v109 : BitVec 32 := Scalar.addi v108 v1
  let c128_i32_78 : BitVec 32 := 128#32
  let v110 : BitVec 32 := Scalar.muli v109 c128_i32_78
  ![v110.toNat]
def k0_cond13 (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c1_i32_43 : BitVec 32 := 1#32
  let v64 : BitVec 32 := Scalar.andi arg13 c1_i32_43
  let c1_i32_74 : BitVec 32 := 1#32
  let v104 : BitVec 1 := Scalar.cmpi .eq v64 c1_i32_74
  let v105 : BitVec 32 := Scalar.extui v104
  let c0_i32_75 : BitVec 32 := 0#32
  let v106 : BitVec 1 := Scalar.cmpi .ne v105 c0_i32_75
  v106

def k0_off11 (i : grid0.Coords) (k0_t1 : Fin k0_t1_loop.trips) : Fin 1 → Nat :=
  let c0_i32_23 : BitVec 32 := 0#32
  let c1_i32_24 : BitVec 32 := 1#32
  let arg13 : BitVec 32 := Scf.iv c0_i32_23 c1_i32_24 k0_t1
  let c2_i32_76 : BitVec 32 := 2#32
  let v107 : BitVec 32 := Scalar.subi arg13 c2_i32_76
  let c32_i32_77 : BitVec 32 := 32#32
  let v108 : BitVec 32 := Scalar.muli v107 c32_i32_77
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v109 : BitVec 32 := Scalar.addi v108 v1
  let c128_i32_78 : BitVec 32 := 128#32
  let v110 : BitVec 32 := Scalar.muli v109 c128_i32_78
  ![v110.toNat]
@[reducible] def k0_t2_loop : Scf.Loop 32 :=
  let c0_i32_64 : BitVec 32 := 0#32
  let c8_i32_65 : BitVec 32 := 8#32
  let v94 : BitVec 32 := Scalar.addi c0_i32_64 c8_i32_65
  let c1_i32_66 : BitVec 32 := 1#32
  ⟨c0_i32_64, v94, c1_i32_66⟩
def k0_off12 (k0_t1 : Fin k0_t1_loop.trips) (k0_t2 : Fin k0_t2_loop.trips) (c0_i32_72 : BitVec 32) : Fin 2 → Nat :=
  let c0_i32_23 : BitVec 32 := 0#32
  let c1_i32_24 : BitVec 32 := 1#32
  let arg13 : BitVec 32 := Scf.iv c0_i32_23 c1_i32_24 k0_t1
  let c3_i32 : BitVec 32 := 3#32
  let v63 : BitVec 32 := Scalar.andi arg13 c3_i32
  let c40_i32_61 : BitVec 32 := 40#32
  let v92 : BitVec 32 := Scalar.muli v63 c40_i32_61
  let v101 : BitVec 32 := Scalar.addi v92 c0_i32_72
  let v103 : Index := Scalar.indexCast v101
  let c0_i32_64 : BitVec 32 := 0#32
  let c1_i32_66 : BitVec 32 := 1#32
  let arg14 : BitVec 32 := Scf.iv c0_i32_64 c1_i32_66 k0_t2
  let c16_i32 : BitVec 32 := 16#32
  let v102 : BitVec 32 := Scalar.muli arg14 c16_i32
  let v104 : Index := Scalar.indexCast v102
  ![v103.toNat, v104.toNat]
def k0_off13 (k0_t1 : Fin k0_t1_loop.trips) (k0_t2 : Fin k0_t2_loop.trips) : Fin 2 → Nat :=
  let c0_i32_23 : BitVec 32 := 0#32
  let c1_i32_24 : BitVec 32 := 1#32
  let arg13 : BitVec 32 := Scf.iv c0_i32_23 c1_i32_24 k0_t1
  let c1_i32_43 : BitVec 32 := 1#32
  let v64 : BitVec 32 := Scalar.andi arg13 c1_i32_43
  let c8_i32_62 : BitVec 32 := 8#32
  let v93 : BitVec 32 := Scalar.muli v64 c8_i32_62
  let v535 : Index := Scalar.indexCast v93
  let c0_i32_64 : BitVec 32 := 0#32
  let c1_i32_66 : BitVec 32 := 1#32
  let arg14 : BitVec 32 := Scf.iv c0_i32_64 c1_i32_66 k0_t2
  let c16_i32_185 : BitVec 32 := 16#32
  let v534 : BitVec 32 := Scalar.muli arg14 c16_i32_185
  let v536 : Index := Scalar.indexCast v534
  ![v535.toNat, v536.toNat]
def k0_cond14 (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c1_i32_43 : BitVec 32 := 1#32
  let v64 : BitVec 32 := Scalar.andi arg13 c1_i32_43
  let c0_i32_68 : BitVec 32 := 0#32
  let v95 : BitVec 1 := Scalar.cmpi .eq v64 c0_i32_68
  let v96 : BitVec 32 := Scalar.extui v95
  let c0_i32_69 : BitVec 32 := 0#32
  let v97 : BitVec 1 := Scalar.cmpi .ne v96 c0_i32_69
  v97

def k0_off14 (i : grid0.Coords) (k0_t1 : Fin k0_t1_loop.trips) : Fin 1 → Nat :=
  let c0_i32_23 : BitVec 32 := 0#32
  let c1_i32_24 : BitVec 32 := 1#32
  let arg13 : BitVec 32 := Scf.iv c0_i32_23 c1_i32_24 k0_t1
  let c32_i32_72 : BitVec 32 := 32#32
  let v101 : BitVec 32 := Scalar.muli arg13 c32_i32_72
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v102 : BitVec 32 := Scalar.addi v101 v1
  let c128_i32_73 : BitVec 32 := 128#32
  let v103 : BitVec 32 := Scalar.muli v102 c128_i32_73
  ![v103.toNat]
def k0_cond15 (k0_t1 : Fin k0_t1_loop.trips) : BitVec 1 :=
  let c0_i32_23 : BitVec 32 := 0#32
  let c1_i32_24 : BitVec 32 := 1#32
  let arg13 : BitVec 32 := Scf.iv c0_i32_23 c1_i32_24 k0_t1
  let c1_i32_43 : BitVec 32 := 1#32
  let v64 : BitVec 32 := Scalar.andi arg13 c1_i32_43
  let c1_i32_70 : BitVec 32 := 1#32
  let v98 : BitVec 1 := Scalar.cmpi .eq v64 c1_i32_70
  let v99 : BitVec 32 := Scalar.extui v98
  let c0_i32_71 : BitVec 32 := 0#32
  let v100 : BitVec 1 := Scalar.cmpi .ne v99 c0_i32_71
  v100

def k0_off15 (i : grid0.Coords) (k0_t1 : Fin k0_t1_loop.trips) : Fin 1 → Nat :=
  let c0_i32_23 : BitVec 32 := 0#32
  let c1_i32_24 : BitVec 32 := 1#32
  let arg13 : BitVec 32 := Scf.iv c0_i32_23 c1_i32_24 k0_t1
  let c32_i32_72 : BitVec 32 := 32#32
  let v101 : BitVec 32 := Scalar.muli arg13 c32_i32_72
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v102 : BitVec 32 := Scalar.addi v101 v1
  let c128_i32_73 : BitVec 32 := 128#32
  let v103 : BitVec 32 := Scalar.muli v102 c128_i32_73
  ![v103.toNat]
def k0_off16 (i : grid0.Coords) (c0_i32_28 : BitVec 32) : Fin 1 → Nat :=
  let c384_i32 : BitVec 32 := 384#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v31 : BitVec 32 := Scalar.addi c384_i32 v1
  let c390_i32 : BitVec 32 := 390#32
  let v32 : BitVec 1 := Scalar.cmpi .slt v31 c390_i32
  let c13_i32_26 : BitVec 32 := 13#32
  let c12_i32 : BitVec 32 := 12#32
  let v33 : BitVec 32 := Scalar.select v32 c13_i32_26 c12_i32
  let c2_i32_27 : BitVec 32 := 2#32
  let v34 : BitVec 32 := Scalar.subi v33 c2_i32_27
  let v35 : BitVec 32 := Scalar.addi v33 c0_i32_28
  let c1_i32_29 : BitVec 32 := 1#32
  let v36 : BitVec 32 := Scalar.andi v35 c1_i32_29
  let v37 : BitVec 32 := Scalar.addi v34 v36
  let c32_i32_30 : BitVec 32 := 32#32
  let v38 : BitVec 32 := Scalar.muli v37 c32_i32_30
  let v39 : BitVec 32 := Scalar.addi v38 v1
  let c128_i32_31 : BitVec 32 := 128#32
  let v40 : BitVec 32 := Scalar.muli v39 c128_i32_31
  ![v40.toNat]
def k0_cond16 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v60 : BitVec 1 := Scalar.cmpi .eq v1 c31_i32
  let v61 : BitVec 32 := Scalar.extui v60
  let c0_i32_42 : BitVec 32 := 0#32
  let v62 : BitVec 1 := Scalar.cmpi .ne v61 c0_i32_42
  v62

@[reducible] def k0_t3_loop : Scf.Loop 32 :=
  let c0_i32_45 : BitVec 32 := 0#32
  let c5_i32 : BitVec 32 := 5#32
  let v63 : BitVec 32 := Scalar.addi c0_i32_45 c5_i32
  let c1_i32_46 : BitVec 32 := 1#32
  ⟨c0_i32_45, v63, c1_i32_46⟩
def k0_off17 (k0_t3 : Fin k0_t3_loop.trips) : Fin 2 → Nat :=
  let c0_i32_49 : BitVec 32 := 0#32
  let v65 : Index := Scalar.indexCast c0_i32_49
  let c0_i32_45 : BitVec 32 := 0#32
  let c1_i32_46 : BitVec 32 := 1#32
  let arg13 : BitVec 32 := Scf.iv c0_i32_45 c1_i32_46 k0_t3
  let c16_i32 : BitVec 32 := 16#32
  let v64 : BitVec 32 := Scalar.muli arg13 c16_i32
  let v66 : Index := Scalar.indexCast v64
  ![0, v66.toNat]
def k0_off18 (k0_t3 : Fin k0_t3_loop.trips) : Fin 2 → Nat :=
  let c1_i32_52 : BitVec 32 := 1#32
  let v74 : Index := Scalar.indexCast c1_i32_52
  let c0_i32_45 : BitVec 32 := 0#32
  let c1_i32_46 : BitVec 32 := 1#32
  let arg13 : BitVec 32 := Scf.iv c0_i32_45 c1_i32_46 k0_t3
  let c16_i32_51 : BitVec 32 := 16#32
  let v73 : BitVec 32 := Scalar.muli arg13 c16_i32_51
  let v75 : Index := Scalar.indexCast v73
  ![1, v75.toNat]
def k0_off19 (k0_t3 : Fin k0_t3_loop.trips) : Fin 2 → Nat :=
  let c2_i32_55 : BitVec 32 := 2#32
  let v83 : Index := Scalar.indexCast c2_i32_55
  let c0_i32_45 : BitVec 32 := 0#32
  let c1_i32_46 : BitVec 32 := 1#32
  let arg13 : BitVec 32 := Scf.iv c0_i32_45 c1_i32_46 k0_t3
  let c16_i32_54 : BitVec 32 := 16#32
  let v82 : BitVec 32 := Scalar.muli arg13 c16_i32_54
  let v84 : Index := Scalar.indexCast v82
  ![2, v84.toNat]
def k0_off20 (k0_t3 : Fin k0_t3_loop.trips) : Fin 2 → Nat :=
  let c3_i32 : BitVec 32 := 3#32
  let v92 : Index := Scalar.indexCast c3_i32
  let c0_i32_45 : BitVec 32 := 0#32
  let c1_i32_46 : BitVec 32 := 1#32
  let arg13 : BitVec 32 := Scf.iv c0_i32_45 c1_i32_46 k0_t3
  let c16_i32_57 : BitVec 32 := 16#32
  let v91 : BitVec 32 := Scalar.muli arg13 c16_i32_57
  let v93 : Index := Scalar.indexCast v91
  ![3, v93.toNat]
def k0_off21 (k0_t3 : Fin k0_t3_loop.trips) : Fin 2 → Nat :=
  let c4_i32 : BitVec 32 := 4#32
  let v101 : Index := Scalar.indexCast c4_i32
  let c0_i32_45 : BitVec 32 := 0#32
  let c1_i32_46 : BitVec 32 := 1#32
  let arg13 : BitVec 32 := Scf.iv c0_i32_45 c1_i32_46 k0_t3
  let c16_i32_59 : BitVec 32 := 16#32
  let v100 : BitVec 32 := Scalar.muli arg13 c16_i32_59
  let v102 : Index := Scalar.indexCast v100
  ![4, v102.toNat]
def k0_off22 (k0_t3 : Fin k0_t3_loop.trips) : Fin 2 → Nat :=
  let c5_i32_62 : BitVec 32 := 5#32
  let v110 : Index := Scalar.indexCast c5_i32_62
  let c0_i32_45 : BitVec 32 := 0#32
  let c1_i32_46 : BitVec 32 := 1#32
  let arg13 : BitVec 32 := Scf.iv c0_i32_45 c1_i32_46 k0_t3
  let c16_i32_61 : BitVec 32 := 16#32
  let v109 : BitVec 32 := Scalar.muli arg13 c16_i32_61
  let v111 : Index := Scalar.indexCast v109
  ![5, v111.toNat]
def k0_off23 (k0_t3 : Fin k0_t3_loop.trips) : Fin 2 → Nat :=
  let c6_i32 : BitVec 32 := 6#32
  let v119 : Index := Scalar.indexCast c6_i32
  let c0_i32_45 : BitVec 32 := 0#32
  let c1_i32_46 : BitVec 32 := 1#32
  let arg13 : BitVec 32 := Scf.iv c0_i32_45 c1_i32_46 k0_t3
  let c16_i32_64 : BitVec 32 := 16#32
  let v118 : BitVec 32 := Scalar.muli arg13 c16_i32_64
  let v120 : Index := Scalar.indexCast v118
  ![6, v120.toNat]
def k0_off24 (k0_t3 : Fin k0_t3_loop.trips) : Fin 2 → Nat :=
  let c7_i32_67 : BitVec 32 := 7#32
  let v128 : Index := Scalar.indexCast c7_i32_67
  let c0_i32_45 : BitVec 32 := 0#32
  let c1_i32_46 : BitVec 32 := 1#32
  let arg13 : BitVec 32 := Scf.iv c0_i32_45 c1_i32_46 k0_t3
  let c16_i32_66 : BitVec 32 := 16#32
  let v127 : BitVec 32 := Scalar.muli arg13 c16_i32_66
  let v129 : Index := Scalar.indexCast v127
  ![7, v129.toNat]
def k0_off25 (k0_t3 : Fin k0_t3_loop.trips) : Fin 2 → Nat :=
  let c8_i32_70 : BitVec 32 := 8#32
  let v137 : Index := Scalar.indexCast c8_i32_70
  let c0_i32_45 : BitVec 32 := 0#32
  let c1_i32_46 : BitVec 32 := 1#32
  let arg13 : BitVec 32 := Scf.iv c0_i32_45 c1_i32_46 k0_t3
  let c16_i32_69 : BitVec 32 := 16#32
  let v136 : BitVec 32 := Scalar.muli arg13 c16_i32_69
  let v138 : Index := Scalar.indexCast v136
  ![8, v138.toNat]
def k0_off26 (k0_t3 : Fin k0_t3_loop.trips) : Fin 2 → Nat :=
  let c9_i32 : BitVec 32 := 9#32
  let v146 : Index := Scalar.indexCast c9_i32
  let c0_i32_45 : BitVec 32 := 0#32
  let c1_i32_46 : BitVec 32 := 1#32
  let arg13 : BitVec 32 := Scf.iv c0_i32_45 c1_i32_46 k0_t3
  let c16_i32_72 : BitVec 32 := 16#32
  let v145 : BitVec 32 := Scalar.muli arg13 c16_i32_72
  let v147 : Index := Scalar.indexCast v145
  ![9, v147.toNat]
def k0_off27 (k0_t3 : Fin k0_t3_loop.trips) : Fin 2 → Nat :=
  let c10_i32 : BitVec 32 := 10#32
  let v155 : Index := Scalar.indexCast c10_i32
  let c0_i32_45 : BitVec 32 := 0#32
  let c1_i32_46 : BitVec 32 := 1#32
  let arg13 : BitVec 32 := Scf.iv c0_i32_45 c1_i32_46 k0_t3
  let c16_i32_74 : BitVec 32 := 16#32
  let v154 : BitVec 32 := Scalar.muli arg13 c16_i32_74
  let v156 : Index := Scalar.indexCast v154
  ![10, v156.toNat]
def k0_off28 (k0_t3 : Fin k0_t3_loop.trips) : Fin 2 → Nat :=
  let c11_i32 : BitVec 32 := 11#32
  let v164 : Index := Scalar.indexCast c11_i32
  let c0_i32_45 : BitVec 32 := 0#32
  let c1_i32_46 : BitVec 32 := 1#32
  let arg13 : BitVec 32 := Scf.iv c0_i32_45 c1_i32_46 k0_t3
  let c16_i32_76 : BitVec 32 := 16#32
  let v163 : BitVec 32 := Scalar.muli arg13 c16_i32_76
  let v165 : Index := Scalar.indexCast v163
  ![11, v165.toNat]
def k0_off29 (k0_t3 : Fin k0_t3_loop.trips) : Fin 2 → Nat :=
  let c12_i32_79 : BitVec 32 := 12#32
  let v173 : Index := Scalar.indexCast c12_i32_79
  let c0_i32_45 : BitVec 32 := 0#32
  let c1_i32_46 : BitVec 32 := 1#32
  let arg13 : BitVec 32 := Scf.iv c0_i32_45 c1_i32_46 k0_t3
  let c16_i32_78 : BitVec 32 := 16#32
  let v172 : BitVec 32 := Scalar.muli arg13 c16_i32_78
  let v174 : Index := Scalar.indexCast v172
  ![12, v174.toNat]
def k0_off30 (k0_t3 : Fin k0_t3_loop.trips) : Fin 2 → Nat :=
  let c13_i32_82 : BitVec 32 := 13#32
  let v182 : Index := Scalar.indexCast c13_i32_82
  let c0_i32_45 : BitVec 32 := 0#32
  let c1_i32_46 : BitVec 32 := 1#32
  let arg13 : BitVec 32 := Scf.iv c0_i32_45 c1_i32_46 k0_t3
  let c16_i32_81 : BitVec 32 := 16#32
  let v181 : BitVec 32 := Scalar.muli arg13 c16_i32_81
  let v183 : Index := Scalar.indexCast v181
  ![13, v183.toNat]
def k0_off31 (k0_t3 : Fin k0_t3_loop.trips) : Fin 2 → Nat :=
  let c14_i32 : BitVec 32 := 14#32
  let v191 : Index := Scalar.indexCast c14_i32
  let c0_i32_45 : BitVec 32 := 0#32
  let c1_i32_46 : BitVec 32 := 1#32
  let arg13 : BitVec 32 := Scf.iv c0_i32_45 c1_i32_46 k0_t3
  let c16_i32_84 : BitVec 32 := 16#32
  let v190 : BitVec 32 := Scalar.muli arg13 c16_i32_84
  let v192 : Index := Scalar.indexCast v190
  ![14, v192.toNat]
def k0_off32 (k0_t3 : Fin k0_t3_loop.trips) : Fin 2 → Nat :=
  let c15_i32 : BitVec 32 := 15#32
  let v200 : Index := Scalar.indexCast c15_i32
  let c0_i32_45 : BitVec 32 := 0#32
  let c1_i32_46 : BitVec 32 := 1#32
  let arg13 : BitVec 32 := Scf.iv c0_i32_45 c1_i32_46 k0_t3
  let c16_i32_86 : BitVec 32 := 16#32
  let v199 : BitVec 32 := Scalar.muli arg13 c16_i32_86
  let v201 : Index := Scalar.indexCast v199
  ![15, v201.toNat]
def k0_off33 (k0_t3 : Fin k0_t3_loop.trips) : Fin 2 → Nat :=
  let c16_i32_89 : BitVec 32 := 16#32
  let v209 : Index := Scalar.indexCast c16_i32_89
  let c0_i32_45 : BitVec 32 := 0#32
  let c1_i32_46 : BitVec 32 := 1#32
  let arg13 : BitVec 32 := Scf.iv c0_i32_45 c1_i32_46 k0_t3
  let c16_i32_88 : BitVec 32 := 16#32
  let v208 : BitVec 32 := Scalar.muli arg13 c16_i32_88
  let v210 : Index := Scalar.indexCast v208
  ![16, v210.toNat]
def k0_off34 (k0_t3 : Fin k0_t3_loop.trips) : Fin 2 → Nat :=
  let c17_i32 : BitVec 32 := 17#32
  let v218 : Index := Scalar.indexCast c17_i32
  let c0_i32_45 : BitVec 32 := 0#32
  let c1_i32_46 : BitVec 32 := 1#32
  let arg13 : BitVec 32 := Scf.iv c0_i32_45 c1_i32_46 k0_t3
  let c16_i32_91 : BitVec 32 := 16#32
  let v217 : BitVec 32 := Scalar.muli arg13 c16_i32_91
  let v219 : Index := Scalar.indexCast v217
  ![17, v219.toNat]
def k0_off35 (k0_t3 : Fin k0_t3_loop.trips) : Fin 2 → Nat :=
  let c18_i32 : BitVec 32 := 18#32
  let v227 : Index := Scalar.indexCast c18_i32
  let c0_i32_45 : BitVec 32 := 0#32
  let c1_i32_46 : BitVec 32 := 1#32
  let arg13 : BitVec 32 := Scf.iv c0_i32_45 c1_i32_46 k0_t3
  let c16_i32_93 : BitVec 32 := 16#32
  let v226 : BitVec 32 := Scalar.muli arg13 c16_i32_93
  let v228 : Index := Scalar.indexCast v226
  ![18, v228.toNat]
def k0_off36 (k0_t3 : Fin k0_t3_loop.trips) : Fin 2 → Nat :=
  let c19_i32 : BitVec 32 := 19#32
  let v236 : Index := Scalar.indexCast c19_i32
  let c0_i32_45 : BitVec 32 := 0#32
  let c1_i32_46 : BitVec 32 := 1#32
  let arg13 : BitVec 32 := Scf.iv c0_i32_45 c1_i32_46 k0_t3
  let c16_i32_95 : BitVec 32 := 16#32
  let v235 : BitVec 32 := Scalar.muli arg13 c16_i32_95
  let v237 : Index := Scalar.indexCast v235
  ![19, v237.toNat]
def k0_off37 (k0_t3 : Fin k0_t3_loop.trips) : Fin 2 → Nat :=
  let c20_i32 : BitVec 32 := 20#32
  let v245 : Index := Scalar.indexCast c20_i32
  let c0_i32_45 : BitVec 32 := 0#32
  let c1_i32_46 : BitVec 32 := 1#32
  let arg13 : BitVec 32 := Scf.iv c0_i32_45 c1_i32_46 k0_t3
  let c16_i32_97 : BitVec 32 := 16#32
  let v244 : BitVec 32 := Scalar.muli arg13 c16_i32_97
  let v246 : Index := Scalar.indexCast v244
  ![20, v246.toNat]
def k0_off38 (k0_t3 : Fin k0_t3_loop.trips) : Fin 2 → Nat :=
  let c21_i32 : BitVec 32 := 21#32
  let v254 : Index := Scalar.indexCast c21_i32
  let c0_i32_45 : BitVec 32 := 0#32
  let c1_i32_46 : BitVec 32 := 1#32
  let arg13 : BitVec 32 := Scf.iv c0_i32_45 c1_i32_46 k0_t3
  let c16_i32_99 : BitVec 32 := 16#32
  let v253 : BitVec 32 := Scalar.muli arg13 c16_i32_99
  let v255 : Index := Scalar.indexCast v253
  ![21, v255.toNat]
def k0_off39 (k0_t3 : Fin k0_t3_loop.trips) : Fin 2 → Nat :=
  let c22_i32 : BitVec 32 := 22#32
  let v263 : Index := Scalar.indexCast c22_i32
  let c0_i32_45 : BitVec 32 := 0#32
  let c1_i32_46 : BitVec 32 := 1#32
  let arg13 : BitVec 32 := Scf.iv c0_i32_45 c1_i32_46 k0_t3
  let c16_i32_101 : BitVec 32 := 16#32
  let v262 : BitVec 32 := Scalar.muli arg13 c16_i32_101
  let v264 : Index := Scalar.indexCast v262
  ![22, v264.toNat]
def k0_off40 (k0_t3 : Fin k0_t3_loop.trips) : Fin 2 → Nat :=
  let c23_i32 : BitVec 32 := 23#32
  let v272 : Index := Scalar.indexCast c23_i32
  let c0_i32_45 : BitVec 32 := 0#32
  let c1_i32_46 : BitVec 32 := 1#32
  let arg13 : BitVec 32 := Scf.iv c0_i32_45 c1_i32_46 k0_t3
  let c16_i32_103 : BitVec 32 := 16#32
  let v271 : BitVec 32 := Scalar.muli arg13 c16_i32_103
  let v273 : Index := Scalar.indexCast v271
  ![23, v273.toNat]
def k0_off41 (k0_t3 : Fin k0_t3_loop.trips) : Fin 2 → Nat :=
  let c24_i32 : BitVec 32 := 24#32
  let v281 : Index := Scalar.indexCast c24_i32
  let c0_i32_45 : BitVec 32 := 0#32
  let c1_i32_46 : BitVec 32 := 1#32
  let arg13 : BitVec 32 := Scf.iv c0_i32_45 c1_i32_46 k0_t3
  let c16_i32_105 : BitVec 32 := 16#32
  let v280 : BitVec 32 := Scalar.muli arg13 c16_i32_105
  let v282 : Index := Scalar.indexCast v280
  ![24, v282.toNat]
def k0_off42 (k0_t3 : Fin k0_t3_loop.trips) : Fin 2 → Nat :=
  let c25_i32 : BitVec 32 := 25#32
  let v290 : Index := Scalar.indexCast c25_i32
  let c0_i32_45 : BitVec 32 := 0#32
  let c1_i32_46 : BitVec 32 := 1#32
  let arg13 : BitVec 32 := Scf.iv c0_i32_45 c1_i32_46 k0_t3
  let c16_i32_107 : BitVec 32 := 16#32
  let v289 : BitVec 32 := Scalar.muli arg13 c16_i32_107
  let v291 : Index := Scalar.indexCast v289
  ![25, v291.toNat]
def k0_off43 (k0_t3 : Fin k0_t3_loop.trips) : Fin 2 → Nat :=
  let c26_i32 : BitVec 32 := 26#32
  let v299 : Index := Scalar.indexCast c26_i32
  let c0_i32_45 : BitVec 32 := 0#32
  let c1_i32_46 : BitVec 32 := 1#32
  let arg13 : BitVec 32 := Scf.iv c0_i32_45 c1_i32_46 k0_t3
  let c16_i32_109 : BitVec 32 := 16#32
  let v298 : BitVec 32 := Scalar.muli arg13 c16_i32_109
  let v300 : Index := Scalar.indexCast v298
  ![26, v300.toNat]
def k0_off44 (k0_t3 : Fin k0_t3_loop.trips) : Fin 2 → Nat :=
  let c27_i32 : BitVec 32 := 27#32
  let v308 : Index := Scalar.indexCast c27_i32
  let c0_i32_45 : BitVec 32 := 0#32
  let c1_i32_46 : BitVec 32 := 1#32
  let arg13 : BitVec 32 := Scf.iv c0_i32_45 c1_i32_46 k0_t3
  let c16_i32_111 : BitVec 32 := 16#32
  let v307 : BitVec 32 := Scalar.muli arg13 c16_i32_111
  let v309 : Index := Scalar.indexCast v307
  ![27, v309.toNat]
def k0_off45 (k0_t3 : Fin k0_t3_loop.trips) : Fin 2 → Nat :=
  let c28_i32 : BitVec 32 := 28#32
  let v317 : Index := Scalar.indexCast c28_i32
  let c0_i32_45 : BitVec 32 := 0#32
  let c1_i32_46 : BitVec 32 := 1#32
  let arg13 : BitVec 32 := Scf.iv c0_i32_45 c1_i32_46 k0_t3
  let c16_i32_113 : BitVec 32 := 16#32
  let v316 : BitVec 32 := Scalar.muli arg13 c16_i32_113
  let v318 : Index := Scalar.indexCast v316
  ![28, v318.toNat]
def k0_off46 (k0_t3 : Fin k0_t3_loop.trips) : Fin 2 → Nat :=
  let c29_i32 : BitVec 32 := 29#32
  let v326 : Index := Scalar.indexCast c29_i32
  let c0_i32_45 : BitVec 32 := 0#32
  let c1_i32_46 : BitVec 32 := 1#32
  let arg13 : BitVec 32 := Scf.iv c0_i32_45 c1_i32_46 k0_t3
  let c16_i32_115 : BitVec 32 := 16#32
  let v325 : BitVec 32 := Scalar.muli arg13 c16_i32_115
  let v327 : Index := Scalar.indexCast v325
  ![29, v327.toNat]
def k0_off47 (k0_t3 : Fin k0_t3_loop.trips) : Fin 2 → Nat :=
  let c30_i32 : BitVec 32 := 30#32
  let v335 : Index := Scalar.indexCast c30_i32
  let c0_i32_45 : BitVec 32 := 0#32
  let c1_i32_46 : BitVec 32 := 1#32
  let arg13 : BitVec 32 := Scf.iv c0_i32_45 c1_i32_46 k0_t3
  let c16_i32_117 : BitVec 32 := 16#32
  let v334 : BitVec 32 := Scalar.muli arg13 c16_i32_117
  let v336 : Index := Scalar.indexCast v334
  ![30, v336.toNat]
def k0_off48 (k0_t3 : Fin k0_t3_loop.trips) : Fin 2 → Nat :=
  let c31_i32_120 : BitVec 32 := 31#32
  let v344 : Index := Scalar.indexCast c31_i32_120
  let c0_i32_45 : BitVec 32 := 0#32
  let c1_i32_46 : BitVec 32 := 1#32
  let arg13 : BitVec 32 := Scf.iv c0_i32_45 c1_i32_46 k0_t3
  let c16_i32_119 : BitVec 32 := 16#32
  let v343 : BitVec 32 := Scalar.muli arg13 c16_i32_119
  let v345 : Index := Scalar.indexCast v343
  ![31, v345.toNat]
def k0_off49 (k0_t3 : Fin k0_t3_loop.trips) : Fin 2 → Nat :=
  let c32_i32_123 : BitVec 32 := 32#32
  let v353 : Index := Scalar.indexCast c32_i32_123
  let c0_i32_45 : BitVec 32 := 0#32
  let c1_i32_46 : BitVec 32 := 1#32
  let arg13 : BitVec 32 := Scf.iv c0_i32_45 c1_i32_46 k0_t3
  let c16_i32_122 : BitVec 32 := 16#32
  let v352 : BitVec 32 := Scalar.muli arg13 c16_i32_122
  let v354 : Index := Scalar.indexCast v352
  ![32, v354.toNat]
def k0_off50 (k0_t3 : Fin k0_t3_loop.trips) : Fin 2 → Nat :=
  let c33_i32 : BitVec 32 := 33#32
  let v362 : Index := Scalar.indexCast c33_i32
  let c0_i32_45 : BitVec 32 := 0#32
  let c1_i32_46 : BitVec 32 := 1#32
  let arg13 : BitVec 32 := Scf.iv c0_i32_45 c1_i32_46 k0_t3
  let c16_i32_125 : BitVec 32 := 16#32
  let v361 : BitVec 32 := Scalar.muli arg13 c16_i32_125
  let v363 : Index := Scalar.indexCast v361
  ![33, v363.toNat]
def k0_off51 (k0_t3 : Fin k0_t3_loop.trips) : Fin 2 → Nat :=
  let c34_i32 : BitVec 32 := 34#32
  let v371 : Index := Scalar.indexCast c34_i32
  let c0_i32_45 : BitVec 32 := 0#32
  let c1_i32_46 : BitVec 32 := 1#32
  let arg13 : BitVec 32 := Scf.iv c0_i32_45 c1_i32_46 k0_t3
  let c16_i32_127 : BitVec 32 := 16#32
  let v370 : BitVec 32 := Scalar.muli arg13 c16_i32_127
  let v372 : Index := Scalar.indexCast v370
  ![34, v372.toNat]
def k0_off52 (k0_t3 : Fin k0_t3_loop.trips) : Fin 2 → Nat :=
  let c0_i32_162 : BitVec 32 := 0#32
  let v463 : Index := Scalar.indexCast c0_i32_162
  let c0_i32_45 : BitVec 32 := 0#32
  let c1_i32_46 : BitVec 32 := 1#32
  let arg13 : BitVec 32 := Scf.iv c0_i32_45 c1_i32_46 k0_t3
  let c16_i32_161 : BitVec 32 := 16#32
  let v462 : BitVec 32 := Scalar.muli arg13 c16_i32_161
  let v464 : Index := Scalar.indexCast v462
  ![0, v464.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x35x8 : Shape := ⟨3, ![50000, 35, 8]⟩
abbrev S50000x35x1 : Shape := ⟨3, ![50000, 35, 1]⟩
abbrev S50000x35 : Shape := ⟨2, ![50000, 35]⟩
abbrev S1x1x8 : Shape := ⟨3, ![1, 1, 8]⟩
abbrev S_ : Shape := ⟨0, ![]⟩
abbrev S50000x8 : Shape := ⟨2, ![50000, 8]⟩
abbrev S1 : Shape := ⟨1, ![1]⟩
abbrev S50000 : Shape := ⟨1, ![50000]⟩
abbrev S50000x1 : Shape := ⟨2, ![50000, 1]⟩

abbrev nBuf : Space → Nat
  | .hbm => 23
  | .vmem => 0
  | .smem => 0
  | _ => 0

abbrev bufTy : (tb : Table) → Fin (tcTables nBuf tb) → BufTy
  | .hbm, ⟨0, _⟩ => ⟨S50000x35x8, .f32⟩
  | .hbm, ⟨1, _⟩ => ⟨S50000x35x1, .f32⟩
  | .hbm, ⟨2, _⟩ => ⟨S50000x35, .f32⟩
  | .hbm, ⟨3, _⟩ => ⟨S50000x35, .i32⟩
  | .hbm, ⟨4, _⟩ => ⟨S50000x35x1, .i32⟩
  | .hbm, ⟨5, _⟩ => ⟨S1x1x8, .i32⟩
  | .hbm, ⟨6, _⟩ => ⟨S50000x35x8, .i32⟩
  | .hbm, ⟨7, _⟩ => ⟨S50000x35x8, .i32⟩
  | .hbm, ⟨8, _⟩ => ⟨S50000x35x8, .i1⟩
  | .hbm, ⟨9, _⟩ => ⟨S50000x35x8, .f32⟩
  | .hbm, ⟨10, _⟩ => ⟨S_, .f32⟩
  | .hbm, ⟨11, _⟩ => ⟨S50000x8, .f32⟩
  | .hbm, ⟨12, _⟩ => ⟨S_, .i32⟩
  | .hbm, ⟨13, _⟩ => ⟨S1, .i32⟩
  | .hbm, ⟨14, _⟩ => ⟨S_, .f32⟩
  | .hbm, ⟨15, _⟩ => ⟨S50000, .f32⟩
  | .hbm, ⟨16, _⟩ => ⟨S50000x8, .f32⟩
  | .hbm, ⟨17, _⟩ => ⟨S50000x8, .i32⟩
  | .hbm, ⟨18, _⟩ => ⟨S_, .f32⟩
  | .hbm, ⟨19, _⟩ => ⟨S_, .i32⟩
  | .hbm, ⟨20, _⟩ => ⟨S50000, .f32⟩
  | .hbm, ⟨21, _⟩ => ⟨S50000, .i32⟩
  | .hbm, ⟨22, _⟩ => ⟨S50000x1, .i32⟩
  | _, _ => ⟨S50000x35x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_call1_v0 : Ref sig .tc := ⟨.hbm, 17, rfl⟩
abbrev main_call1_cst : Ref sig .tc := ⟨.hbm, 18, rfl⟩
abbrev main_call1_c : Ref sig .tc := ⟨.hbm, 19, rfl⟩
abbrev main_call1_v1_0 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Proof.Vote.lean ====
/-
  What one lane of a group computes: the class of one voxel, from the thirty-five label words of its points. Three
  accumulators of packed four-bit counters take the points in turn (fifteen, fifteen and five); the counters are then
  spread to bytes, each class's count is scaled by eight and tagged with seven minus the class, and the tag of the
  largest is the answer.
-/
module

public import proofs.«01_k».proof.Proof.Gen.KernelIdeal.Skeleton
public import Idealize.ShloMosaic.Lib.ValueLayout

@[expose] public section

noncomputable section

namespace Cert.Vote

open Idealize.ShloMosaic Idealize.ShloMosaic.ValueIdx Idealize.SL.Sem
open Cert.KernelIdeal Cert.KernelIdeal.Gen

variable {F : FTy → Type} [FloatOps F]

/-- A packed accumulator after counting one more point of class `l`: four bits per class. -/
def tick (a l : BitVec 32) : BitVec 32 :=
  IntOp.addi a (IntOp.shli .vector 1#32 (IntOp.shli .vector l 2#32))

/-- A packed accumulator after counting the points of a list, from zero. -/
def tally (l : Fin 35 → BitVec 32) (ps : List (Fin 35)) : BitVec 32 := ps.foldl (fun a p => tick a (l p)) 0#32

/-- The three runs of points, one per accumulator. -/
def runA : List (Fin 35) := [0, 1, 2, 3, 4, 5, 6, 7, 8, 9, 10, 11, 12, 13, 14]
def runB : List (Fin 35) := [15, 16, 17, 18, 19, 20, 21, 22, 23, 24, 25, 26, 27, 28, 29]
def runC : List (Fin 35) := [30, 31, 32, 33, 34]

/-- The even classes' counts of the three accumulators, added as bytes. -/
def evens (a b c : BitVec 32) : BitVec 32 :=
  IntOp.addi (IntOp.addi (IntOp.andi a 252645135#32) (IntOp.andi b 252645135#32)) (IntOp.andi c 252645135#32)

/-- The counters moved down by one class. -/
def down (a : BitVec 32) : BitVec 32 := IntOp.andi (IntOp.shrsi .vector a 4#32) 252645135#32

/-- The odd classes' counts of the three accumulators, added as bytes. -/
def odds (a b c : BitVec 32) : BitVec 32 := IntOp.addi (IntOp.addi (down a) (down b)) (down c)

/-- Byte `s / 8` of a word of counts, times eight, plus a class's tag. -/
def rated (w s t : BitVec 32) : BitVec 32 :=
  IntOp.addi (IntOp.shli .vector (IntOp.andi (IntOp.shrsi .vector w s) 255#32) 3#32) t

/-- The class of the largest tagged count, from the two words of byte counts: the tag is seven minus the class, and
    the bare tag seven stands for class zero. -/
def decide8 (ev od : BitVec 32) : BitVec 32 :=
  let b := IntOp.maxsi 7#32 (rated od 0#32 6#32)
  let b := IntOp.maxsi b (rated ev 8#32 5#32)
  let b := IntOp.maxsi b (rated od 8#32 4#32)
  let b := IntOp.maxsi b (rated ev 16#32 3#32)
  let b := IntOp.maxsi b (rated od 16#32 2#32)
  let b := IntOp.maxsi b (rated ev 24#32 1#32)
  let b := IntOp.maxsi b (rated od 24#32 0#32)
  IntOp.subi 7#32 (IntOp.andi b 7#32)

/-- The class of one voxel from its points' label words. -/
def vote (l : Fin 35 → BitVec 32) : BitVec 32 :=
  decide8 (evens (tally l runA) (tally l runB) (tally l runC)) (odds (tally l runA) (tally l runB) (tally l runC))

/-- The group's vector of classes in the main rounds, from the thirty-five rows loaded, through the kernel's own
    intermediate vectors. -/
def groupVec (x : Fin 35 → Vec F S1x16 .f32) : IVec S16 32 :=
  let a := k0_pay7 k0_pay43 (k0_pay4 k0_pay43 (k0_pay3 k0_pay43 (k0_pay2 k0_pay42 k0_pay43 (x 0) (x 1) (x 2) (x 3))
    (x 4) (x 5) (x 6) (x 7)) (x 8) (x 9) (x 10) (x 11)) (k0_pay5 (x 12)) k0_pay6 (x 13) (x 14)
  let b := k0_pay14 (k0_pay12 k0_pay43 (k0_pay10 k0_pay43 (k0_pay9 k0_pay43 (k0_pay8 k0_pay42 k0_pay43 (x 15) (x 16))
    (x 17) (x 18) (x 19) (x 20)) (x 21) (x 22) (x 23) (x 24)) (k0_pay11 (x 25)) (x 26) (x 27) (x 28)) (k0_pay13 k0_pay43 (x 29))
  let c := k0_pay15 k0_pay42 k0_pay43 (x 30) (x 31) (x 32) (x 33)
  let ev := k0_pay17 k0_pay43 k0_pay45 a b c (x 34)
  let od := k0_pay18 k0_pay43 k0_pay45 a b c (x 34)
  k0_pay46 (k0_pay21 ev od (k0_pay19 k0_pay43 k0_pay44 k0_pay45 a b c (x 34)) (k0_pay20 k0_pay43 k0_pay45 a b c (x 34)) 255#32)
    (k0_pay22 od)

set_option maxRecDepth 65536 in
/-- Lane by lane, a main round's vector is the vote over the rows' lane. -/
theorem groupVec_cast (x : Fin 35 → Vec F S1x16 .f32) (j : S16.Idx) :
    groupVec x j = vote fun p => FloatOps.fptosi 32 (shapeCast S16 (x p) shapeCasts_S1x16_S16 j) := rfl

/-- A main round's vector, at a lane, is the vote over the rows' words at that lane. -/
theorem groupVec_apply (x : Fin 35 → Vec F S1x16 .f32) (j : Fin 16) :
    groupVec x (ix1 j) = vote fun p => FloatOps.fptosi 32 (x p (ix2 (0 : Fin 1) j)) := by
  rw [groupVec_cast]
  congr 1; funext p; congr 1
  exact shapeCast_1a_a_apply (x p) shapeCasts_S1x16_S16 j

/-- The group's vector of classes in the last, short block, from the thirty-five rows loaded, through the kernel's own
    intermediate vectors. -/
def tailVec (x : Fin 35 → Vec F S1x16 .f32) : IVec S16 32 :=
  let a := k0_pay29 k0_pay43 (k0_pay26 k0_pay43 (k0_pay25 k0_pay43 (k0_pay23 k0_pay42 k0_pay43 (x 0) (x 1) (x 2) (x 3))
    (k0_pay24 (x 4)) (x 5) (x 6) (x 7) (x 8)) (x 9) (x 10) (x 11) (x 12)) (k0_pay27 (x 13)) k0_pay28 (x 14)
  let b := k0_pay34 k0_pay43 (k0_pay32 k0_pay43 (k0_pay31 k0_pay43 (k0_pay30 k0_pay42 k0_pay43 (x 15) (x 16) (x 17))
    (x 18) (x 19) (x 20) (x 21) (x 22)) (x 23) (x 24) (x 25) (x 26)) (k0_pay33 (x 27)) (x 28) (x 29)
  let c := k0_pay35 k0_pay42 k0_pay43 (x 30) (x 31)
  let ev := k0_pay37 k0_pay43 k0_pay45 a b c (x 32) (x 33) (x 34)
  let od := k0_pay38 k0_pay43 k0_pay45 a b c (x 32) (x 33) (x 34)
  k0_pay1 ev od (k0_pay41 k0_pay44 ev od (k0_pay39 k0_pay43 k0_pay45 a b c (x 32) (x 33) (x 34)) k0_pay40)

set_option maxRecDepth 65536 in
/-- Lane by lane, the short block's vector is the vote over the rows' lane. -/
theorem tailVec_cast (x : Fin 35 → Vec F S1x16 .f32) (j : S16.Idx) :
    tailVec x j = vote fun p => FloatOps.fptosi 32 (shapeCast S16 (x p) shapeCasts_S1x16_S16 j) := rfl

/-- The short block's vector, at a lane, is the vote over the rows' words at that lane. -/
theorem tailVec_apply (x : Fin 35 → Vec F S1x16 .f32) (j : Fin 16) :
    tailVec x (ix1 j) = vote fun p => FloatOps.fptosi 32 (x p (ix2 (0 : Fin 1) j)) := by
  rw [tailVec_cast]
  congr 1; funext p; congr 1
  exact shapeCast_1a_a_apply (x p) shapeCasts_S1x16_S16 j

end Cert.Vote

end
-- ==== Proof.Basic.lean ====
/-
  The launch's set-up: the program as the launch theorem reads it, the ghost state, the arrays, and what the one call
  hands to each vector subcore and takes back. Everything here is over any float reading `F`: the frame of the kernel,
  the frame of its idealization and the value claim all use the one run.
-/
module

public import proofs.«01_k».proof.Defs
public import proofs.«01_k».proof.Proof.Vote
public import Idealize.ShloMosaic.Lib.SparseCore.Quiescent
public import Idealize.ShloMosaic.Lib.StableHlo.Run
public import Idealize.ShloMosaic.Lib.Pipeline.Kit
public import Idealize.ShloMosaic.Lib.Transfers
public import Idealize.ShloMosaic.Lib.Tactic

@[expose] public section

noncomputable section

namespace Cert.Proof.K

open Cert.KernelIdeal Cert.KernelIdeal.Gen Cert.Vote

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's own semaphores and the tasks' memory are as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The features, their transposed copy, the classes, and the classes as a column. -/
abbrev xLoc (d : Dev nD) : Loc nD τ sig := (SparseCore.T d).loc main_arg0
abbrev vLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The transposed copy's contents. -/
def tv (d : Dev nD) : Buf (Elt F) (vLoc d) := transpose S35x8x50000 [1, 2, 0] (m (xLoc d)) transposes_S50000x35x8_S35x8x50000_1_2_0

section Res
variable [FloatOps F]

/-- The class of voxel `n`, by the kernel's vote over its points' label words. -/
def resAt (d : Dev nD) (n : Fin 50000) : BitVec 32 :=
  vote fun p => FloatOps.fptosi 32 (tv m d (ix3 p (7 : Fin 8) n) : F .f32)

/-- The classes' array when the call is over. -/
def res (d : Dev nD) : Buf (Elt F) (oLoc d) := fun i => resAt m d (i 0)

end Res

/-! ## Who writes what -/

/-- The worker a voxel's class is written by: blocks of 128 go round the thirty-two workers, the last eighty voxels go
    to worker 31. -/
def owner (n : ℕ) : ℕ := if n / 128 < 390 then n / 128 % 32 else 31

/-- The voxels of worker `w`. -/
def ownSet (w : ℕ) : Finset S50000.Idx := Finset.univ.filter fun i => owner (i 0).val = w

/-- What every task is handed of the transposed copy: some share of it, which it need not give back. -/
def vShare (d : Dev nD) : sProp 𝕄 := iprop(∃ q, vLoc d ↦{q} tv m d)

instance vShare_storable (d : Dev nD) : BI.Storable (upEmb : UEmb _ 𝕄) (vShare m d) := by unfold vShare; infer_instance

/-- The worker numbers: subcore `i` of SparseCore `c` is worker `2 * i + c`. -/
def wNo (c i : ℕ) : ℕ := 2 * i + c

variable [FloatOps F]

/-- A SparseCore's voxels: those of its sixteen workers. -/
def coreSet (c : ℕ) : Finset S50000.Idx := Finset.univ.filter fun i => owner (i 0).val % 2 = c

/-- What the call hands over and takes back: shares of the transposed copy going in only, and the classes' array, in
    disjoint parts — before the call at the launch contents, after it at the classes. -/
def P : (K (F := F)).Pay (nD := nD) (Val := Elt F) (Name := ℕ) (U := UU) where
  st := fun _ d c => iprop(vShare m d ∗ oLoc d ↦[coreSet c.val]{fullShare} m (oLoc d))
  dn := fun _ d c => iprop(oLoc d ↦[coreSet c.val]{fullShare} res m d)
  go := fun _ d c i => iprop(vShare m d ∗ oLoc d ↦[ownSet (wNo c.val i.val)]{fullShare} m (oLoc d))
  td := fun _ d c i => iprop(oLoc d ↦[ownSet (wNo c.val i.val)]{fullShare} res m d)
  x := fun _ _ => iprop(emp)

instance P_storable : (P (F := F) m).IsStorable where
  st _ d c := by unfold P; infer_instance
  dn _ d c := by unfold P; infer_instance
  go _ d c i := by unfold P; infer_instance
  td _ d c i := by unfold P; infer_instance

end Cert.Proof.K

end
-- ==== Proof.Geom.lean ====
/-
  Where the kernel's slices lie and what they read and write: the slots of the input buffer, the rows of the output
  buffer, the blocks of the classes' array, and the transfers' values at an index.
-/
module

public import proofs.«01_k».proof.Proof.Basic
public import Idealize.ShloMosaic.Lib.Exec.Geometry
public import Idealize.ShloMosaic.Lib.Pipeline.Value

@[expose] public section

noncomputable section

namespace Cert.Proof.K

open Cert.KernelIdeal Cert.KernelIdeal.Gen Cert.Vote
open Idealize.ShloMosaic Idealize.ShloMosaic.ValueIdx

variable {F : FTy → Type}

/-! ## The kernel's memrefs -/

abbrev vV : Memref sig .scVector .hbm S35x8x50000 .f32 := Memref.whole main_v0_scv
abbrev oV : Memref sig .scVector .hbm S50000 .i32 := Memref.whole main_v1_scv
abbrev inV : Memref sig .scVector .vmem S160x128 .f32 := Memref.whole cc0_scratch0
abbrev midV : Memref sig .scVector .vmem S35x80 .f32 := Memref.whole cc0_scratch1
abbrev outV : Memref sig .scVector .vmem S16x128 .i32 := Memref.whole cc0_scratch2

/-! ## The sets -/

/-- Slot `s` of the input buffer: forty rows. -/
def slotSet (s : ℕ) : Finset S160x128.Idx := Finset.univ.filter fun i => (i 0).val / 40 = s
/-- Row `r` of the output buffer. -/
def rowSet (r : ℕ) : Finset S16x128.Idx := Finset.univ.filter fun i => (i 0).val = r
/-- The `n` voxels from `a` on. -/
def spanSet (a n : ℕ) : Finset S50000.Idx := Finset.univ.filter fun i => a ≤ (i 0).val ∧ (i 0).val < a + n

/-! ## A slice's slot, row or span -/

theorem in_set {s : ℕ} (o : Fin 2 → ℕ) (inb : ∀ a, o a + S35x128.size a ≤ S160x128.size a) (ho : o = ![40 * s, 0]) :
    (inV.slice (Rect.unit (s := S160x128) o S35x128.size inb) (fun _ => rfl)).view.set ⊆ slotSet s := by
  intro i hi
  have h := (Rect.mem_set_unit (inb := inb)).mp ((View.set_slice_whole (cc0_scratch0 : Ref sig .scVector) _) ▸ hi)
  have h0 := h 0
  subst ho
  simp only [slotSet, Finset.mem_filter, Finset.mem_univ, true_and]
  have h1 : 40 * s ≤ (i 0).val ∧ (i 0).val < 40 * s + 35 := h0
  show (i 0).val / 40 = s
  omega

theorem out_row_set {r n : ℕ} (o : Fin 2 → ℕ) {sz : Fin 2 → ℕ} (hsz : sz = ![1, n])
    (inb : ∀ a, o a + sz a ≤ S16x128.size a) (ho : o 0 = r) :
    (Rect.unit (s := S16x128) o sz inb).set ⊆ rowSet r := by
  intro i hi
  have h0 := (Rect.mem_set_unit (inb := inb)).mp hi 0
  subst hsz
  simp only [rowSet, Finset.mem_filter, Finset.mem_univ, true_and]
  have h1 : o 0 ≤ (i 0).val ∧ (i 0).val < o 0 + 1 := h0
  show (i 0).val = r
  omega

theorem span_set {a n : ℕ} (o : Fin 1 → ℕ) {sz : Fin 1 → ℕ} (hsz : sz = ![n])
    (inb : ∀ a, o a + sz a ≤ S50000.size a) (ho : o = ![a]) :
    (Rect.unit (s := S50000) o sz inb).set = spanSet a n := by
  ext i
  subst hsz ho
  rw [Rect.mem_set_unit]
  simp only [spanSet, Finset.mem_filter, Finset.mem_univ, true_and]
  constructor
  · intro h; exact h 0
  · intro h b; obtain rfl : b = 0 := Subsingleton.elim _ _; exact h

/-! ## What a fetched slot holds -/

/-- A fetch's source at point `p` and lane `c`: the transposed copy at that point, channel seven, voxel `128 * b + c`. -/
theorem src_read {b : ℕ} {n : ℕ} (f : (⟨S35x8x50000, .f32⟩ : BufTy).Contents (Elt F)) (off : Fin 3 → ℕ)
    (inb : ∀ a, off a + (⟨3, ![35, 1, n]⟩ : Shape).size a ≤ S35x8x50000.size a) (hoff : off = ![0, 7, b])
    (hsq : (⟨3, ![35, 1, n]⟩ : Shape).Squeezes ⟨2, ![35, n]⟩) (p : Fin 35) (c : Fin n) (hbc : b + c.val < 50000) :
    ((vV.slice (Rect.unit (s := S35x8x50000) off (⟨3, ![35, 1, n]⟩ : Shape).size inb) (fun _ => rfl)).squeeze ⟨2, ![35, n]⟩ hsq).view.read (Elt F) f (ix2 p c)
      = f (ix3 p (7 : Fin 8) (⟨b + c.val, hbc⟩ : Fin 50000)) := by
  subst hoff
  rw [View.read_apply, cast_eq]
  congr 1
  show ((View.whole (main_v0_scv : Ref sig .scVector)).slice (Rect.unit (s := S35x8x50000) ![0, 7, b] (⟨3, ![35, 1, n]⟩ : Shape).size inb)).emb (Shape.reshapeEquiv hsq.numel_eq (ix2 p c)) = _
  rw [Shape.reshapeEquiv_eq_of_rowMajor (y := ix3 p (0 : Fin 1) c) _ (by
    rw [Shape.rowMajor_val_two, Shape.rowMajor_val_three]
    show (p.val * 1 + 0) * n + c.val = p.val * n + c.val
    rw [Nat.mul_one, Nat.add_zero])]
  funext a; apply Fin.ext
  match a with
  | 0 => show 0 + 1 * p.val = p.val; omega
  | 1 => show 7 + 1 * 0 = 7; rfl
  | 2 => show b + 1 * c.val = b + c.val; omega

/-- What the input buffer holds in slot `s` after a write through the slot's slice. -/
theorem in_write {s : ℕ} (o : Fin 2 → ℕ) (inb : ∀ a, o a + S35x128.size a ≤ S160x128.size a) (ho : o = ![40 * s, 0])
    (f : (⟨S160x128, .f32⟩ : BufTy).Contents (Elt F)) (w : S35x128.Idx → Elt F .f32) (i : S160x128.Idx) (p : Fin 35) (hi : (i 0).val = 40 * s + p.val) :
    (inV.slice (Rect.unit (s := S160x128) o S35x128.size inb) (fun _ => rfl)).view.write (Elt F) f w Finset.univ i = w (ix2 p (i 1)) := by
  subst ho
  have h : (inV.slice (Rect.unit (s := S160x128) ![40 * s, 0] S35x128.size inb) (fun _ => rfl)).view.emb (ix2 p (i 1)) = i := by
    funext a; apply Fin.ext
    match a with
    | 0 => show 40 * s + 1 * p.val = (i 0).val; omega
    | 1 => show 0 + 1 * (i 1).val = (i 1).val; omega
  conv_lhs => rw [← h]
  rw [View.write_emb_of_mem _ _ (Finset.mem_univ _)]; rfl

/-! ## Loads and stores of sixteen lanes -/

theorem in_load {r c : ℕ} (o : Fin 2 → ℕ) (inb : ∀ a, o a + S1x16.size a ≤ S160x128.size a) (ho : o = ![r, c])
    (f : (⟨S160x128, .f32⟩ : BufTy).Contents (Elt F)) (j : Fin 16) (hr : r < 160) (hc : c + j.val < 128) :
    inV.view.readAt (Elt F) (Rect.unit (s := S160x128) o S1x16.size inb).toLoadRect f (ix2 (0 : Fin 1) j)
      = f (ix2 (⟨r, hr⟩ : Fin 160) (⟨c + j.val, hc⟩ : Fin 128)) := by
  subst ho
  rw [View.readAt_apply, View.read_apply, cast_eq]
  congr 1
  funext a; apply Fin.ext
  match a with
  | 0 => show r + 1 * 0 = r; omega
  | 1 => show c + 1 * j.val = c + j.val; omega

theorem mid_load {r c : ℕ} (o : Fin 2 → ℕ) (inb : ∀ a, o a + S1x16.size a ≤ S35x80.size a) (ho : o = ![r, c])
    (f : (⟨S35x80, .f32⟩ : BufTy).Contents (Elt F)) (j : Fin 16) (hr : r < 35) (hc : c + j.val < 80) :
    midV.view.readAt (Elt F) (Rect.unit (s := S35x80) o S1x16.size inb).toLoadRect f (ix2 (0 : Fin 1) j)
      = f (ix2 (⟨r, hr⟩ : Fin 35) (⟨c + j.val, hc⟩ : Fin 80)) := by
  subst ho
  rw [View.readAt_apply, View.read_apply, cast_eq]
  congr 1
  funext a; apply Fin.ext
  match a with
  | 0 => show r + 1 * 0 = r; omega
  | 1 => show c + 1 * j.val = c + j.val; omega

/-- A load through a slot's slice stays in the slot. -/
theorem in_load_sub {s c p : ℕ} (o : Fin 2 → ℕ) (inb : ∀ a, o a + S1x16.size a ≤ S160x128.size a) (ho : o = ![40 * s + p, c]) (hp : p < 35) :
    inV.view.setOn (Rect.unit (s := S160x128) o S1x16.size inb).toLoadRect.set ⊆ slotSet s := by
  intro i hi
  subst ho
  obtain ⟨y, hy, rfl⟩ := Finset.mem_map.mp hi
  have h := (Rect.mem_set_unit (inb := inb)).mp hy 0
  have h1 : 40 * s + p ≤ (y 0).val ∧ (y 0).val < 40 * s + p + 1 := h
  simp only [slotSet, Finset.mem_filter, Finset.mem_univ, true_and]
  show (y 0).val / 40 = s
  omega

theorem out_load_sub {r : ℕ} (o : Fin 2 → ℕ) (inb : ∀ a, o a + S1x16.size a ≤ S16x128.size a) (ho : o 0 = r) :
    outV.view.setOn (Rect.unit (s := S16x128) o S1x16.size inb).toLoadRect.set ⊆ rowSet r := by
  intro i hi
  obtain ⟨y, hy, rfl⟩ := Finset.mem_map.mp hi
  exact out_row_set (n := 16) o rfl inb ho hy

theorem out_store_sub {r : ℕ} (o : Fin 2 → ℕ) (inb : ∀ a, o a + S1x16.size a ≤ S16x128.size a) (ho : o 0 = r) :
    (outV.access (Rect.unit (s := S16x128) o S1x16.size inb)).setOn Finset.univ ⊆ rowSet r := by
  rw [View.setOn_univ]
  intro i hi
  exact out_row_set (n := 16) o rfl inb ho ((View.set_slice_whole (cc0_scratch2 : Ref sig .scVector) _) ▸ hi)

/-- The output buffer after sixteen lanes are stored at row `r`, column `c`: those lanes changed, the rest as before. -/
theorem out_store {r c : ℕ} (o : Fin 2 → ℕ) (inb : ∀ a, o a + S1x16.size a ≤ S16x128.size a) (ho : o = ![r, c])
    (f : (⟨S16x128, .i32⟩ : BufTy).Contents (Elt F)) (w : S1x16.Idx → BitVec 32) (i : S16x128.Idx) (hi : (i 0).val = r) :
    (outV.access (Rect.unit (s := S16x128) o S1x16.size inb)).write (Elt F) f w Finset.univ i
      = if h : c ≤ (i 1).val ∧ (i 1).val < c + 16 then w (ix2 (0 : Fin 1) (⟨(i 1).val - c, by omega⟩ : Fin 16)) else f i := by
  subst ho
  by_cases h : c ≤ (i 1).val ∧ (i 1).val < c + 16
  · rw [dif_pos h]
    have e : (outV.access (Rect.unit (s := S16x128) ![r, c] S1x16.size inb)).emb (ix2 (0 : Fin 1) (⟨(i 1).val - c, by omega⟩ : Fin 16)) = i := by
      funext a; apply Fin.ext
      match a with
      | 0 => show r + 1 * 0 = (i 0).val; omega
      | 1 => show c + 1 * ((i 1).val - c) = (i 1).val; omega
    conv_lhs => rw [← e]
    rw [View.write_emb_of_mem _ _ (Finset.mem_univ _)]; rfl
  · rw [dif_neg h]
    refine View.write_of_not_mem _ _ _ fun hm => h ?_
    rw [View.setOn_univ] at hm
    exact (Rect.mem_set_unit (inb := inb)).mp ((View.set_slice_whole (cc0_scratch2 : Ref sig .scVector) _) ▸ hm) 1

/-! ## A block written out -/

/-- The output buffer's row `r` as a write-out reads it. -/
theorem out_read {r n : ℕ} (f : (⟨S16x128, .i32⟩ : BufTy).Contents (Elt F)) (o : Fin 2 → ℕ)
    (inb : ∀ a, o a + (⟨2, ![1, n]⟩ : Shape).size a ≤ S16x128.size a) (ho : o = ![r, 0])
    (hsq : (⟨2, ![1, n]⟩ : Shape).Squeezes ⟨1, ![n]⟩) (c : Fin n) (hr : r < 16) (hc : c.val < 128) :
    ((outV.slice (Rect.unit (s := S16x128) o (⟨2, ![1, n]⟩ : Shape).size inb) (fun _ => rfl)).squeeze ⟨1, ![n]⟩ hsq).view.read (Elt F) f (ix1 c)
      = f (ix2 (⟨r, hr⟩ : Fin 16) (⟨c.val, hc⟩ : Fin 128)) := by
  subst ho
  rw [View.read_apply, cast_eq]
  congr 1
  show ((View.whole (cc0_scratch2 : Ref sig .scVector)).slice (Rect.unit (s := S16x128) ![r, 0] (⟨2, ![1, n]⟩ : Shape).size inb)).emb (Shape.reshapeEquiv hsq.numel_eq (ix1 c)) = _
  rw [Shape.reshapeEquiv_eq_of_rowMajor (y := ix2 (0 : Fin 1) c) _ (by
    rw [Shape.rowMajor_val_two, Shape.rowMajor_val_one]
    show 0 * n + c.val = c.val
    rw [Nat.zero_mul, Nat.zero_add])]
  funext a; apply Fin.ext
  match a with
  | 0 => show r + 1 * 0 = r; omega
  | 1 => show 0 + 1 * c.val = c.val; omega

/-- The first `n` lanes of row `r` of the output buffer. -/
def partSet (r n : ℕ) : Finset S16x128.Idx := Finset.univ.filter fun i => (i 0).val = r ∧ (i 1).val < n

theorem part_sub (r n : ℕ) : partSet r n ⊆ rowSet r := by
  intro i hi
  simp only [partSet, rowSet, Finset.mem_filter, Finset.mem_univ, true_and] at hi ⊢
  exact hi.1

theorem part_full (r : ℕ) : partSet r 128 = rowSet r := by
  ext i
  have : (i 1).val < 128 := (i 1).isLt
  simp only [partSet, rowSet, Finset.mem_filter, Finset.mem_univ, true_and, this, and_true]

/-- A write-out reads the first lanes of its row. -/
theorem out_src_set {r n : ℕ} (o : Fin 2 → ℕ) (inb : ∀ a, o a + (⟨2, ![1, n]⟩ : Shape).size a ≤ S16x128.size a) (ho : o = ![r, 0])
    (hsq : (⟨2, ![1, n]⟩ : Shape).Squeezes ⟨1, ![n]⟩) :
    ((outV.slice (Rect.unit (s := S16x128) o (⟨2, ![1, n]⟩ : Shape).size inb) (fun _ => rfl)).squeeze ⟨1, ![n]⟩ hsq).view.set = partSet r n := by
  refine (View.set_reshape _ _).trans ((View.set_slice_whole (cc0_scratch2 : Ref sig .scVector) _).trans ?_)
  subst ho
  ext i
  rw [Rect.mem_set_unit]
  simp only [partSet, Finset.mem_filter, Finset.mem_univ, true_and]
  constructor
  · intro h
    have h0 : r ≤ (i 0).val ∧ (i 0).val < r + 1 := h 0
    have h1 : 0 ≤ (i 1).val ∧ (i 1).val < 0 + n := h 1
    omega
  · intro h a
    match a with
    | 0 => show r ≤ (i 0).val ∧ (i 0).val < r + 1; omega
    | 1 => show 0 ≤ (i 1).val ∧ (i 1).val < 0 + n; omega

theorem o_set {a n : ℕ} (o : Fin 1 → ℕ) (inb : ∀ b, o b + (⟨1, ![n]⟩ : Shape).size b ≤ S50000.size b) (ho : o = ![a]) :
    (oV.slice (Rect.unit (s := S50000) o (⟨1, ![n]⟩ : Shape).size inb) (fun _ => rfl)).view.set = spanSet a n :=
  (View.set_slice_whole (main_v1_scv : Ref sig .scVector) _).trans (span_set o rfl inb ho)

/-- The classes' array after a block of `n` is written at `a`. -/
theorem o_write {a n : ℕ} (o : Fin 1 → ℕ) (inb : ∀ b, o b + (⟨1, ![n]⟩ : Shape).size b ≤ S50000.size b) (ho : o = ![a])
    (f : (⟨S50000, .i32⟩ : BufTy).Contents (Elt F)) (w : (⟨1, ![n]⟩ : Shape).Idx → BitVec 32) (i : S50000.Idx) (c : Fin n) (hi : (i 0).val = a + c.val) :
    (oV.slice (Rect.unit (s := S50000) o (⟨1, ![n]⟩ : Shape).size inb) (fun _ => rfl)).view.write (Elt F) f w Finset.univ i = w (ix1 c) := by
  subst ho
  have e : (oV.slice (Rect.unit (s := S50000) ![a] (⟨1, ![n]⟩ : Shape).size inb) (fun _ => rfl)).view.emb (ix1 c) = i := by
    funext b; apply Fin.ext
    match b with
    | 0 => show a + 1 * c.val = (i 0).val; omega
  conv_lhs => rw [← e]
  rw [View.write_emb_of_mem _ _ (Finset.mem_univ _)]; rfl

end Cert.Proof.K

end
-- ==== Proof.Arith.lean ====
/-
  The kernel's conditions and offsets in closed form, over all thirteen rounds and all thirty-two workers.
-/
module

public import proofs.«01_k».proof.Proof.Basic

@[expose] public section

noncomputable section

namespace Cert.Proof.K

open Cert.KernelIdeal Cert.KernelIdeal.Gen
open Idealize.ShloMosaic

/-- The worker number of a task. -/
def wid (L : grid0.Coords) : ℕ := wNo (L 0).val (L 1).val

theorem wid_lt (L : grid0.Coords) : wid L < 32 := by
  have h0 : (L 0).val < 2 := (L 0).isLt
  have h1 : (L 1).val < 16 := (L 1).isLt
  unfold wid wNo; omega

theorem trips1 : k0_t1_loop.trips = 13 := by decide
theorem trips2 : k0_t2_loop.trips = 8 := by decide
theorem trips3 : k0_t3_loop.trips = 5 := by decide
theorem lt13 (k : Fin k0_t1_loop.trips) : k.val < 13 := trips1 ▸ k.isLt
theorem lt8 (k : Fin k0_t2_loop.trips) : k.val < 8 := trips2 ▸ k.isLt
theorem lt5 (k : Fin k0_t3_loop.trips) : k.val < 5 := trips3 ▸ k.isLt

/-- Round `k + 3` exists for this worker, as the kernel tests it. -/
theorem cond1_iff : ∀ (L : grid0.Coords) (k : Fin k0_t1_loop.trips), k0_cond1 L k = 1#1 ↔ 32 * (k.val + 3) + wid L < 390 := by decide +kernel
/-- Round `k` exists for this worker, as the kernel tests it. -/
theorem cond6_iff : ∀ (L : grid0.Coords) (k : Fin k0_t1_loop.trips), k0_cond6 L k = 1#1 ↔ 32 * k.val + wid L < 390 := by decide +kernel
/-- The slot tests of a fetch's start. -/
theorem cond2_iff : ∀ k : Fin k0_t1_loop.trips, k0_cond2 k = 1#1 ↔ (k.val + 3) % 4 = 0 := by decide +kernel
theorem cond3_iff : ∀ k : Fin k0_t1_loop.trips, k0_cond3 k = 1#1 ↔ (k.val + 3) % 4 = 1 := by decide +kernel
theorem cond4_iff : ∀ k : Fin k0_t1_loop.trips, k0_cond4 k = 1#1 ↔ (k.val + 3) % 4 = 2 := by decide +kernel
theorem cond5_iff : ∀ k : Fin k0_t1_loop.trips, k0_cond5 k = 1#1 ↔ (k.val + 3) % 4 = 3 := by decide +kernel
/-- The slot tests of a fetch's wait. -/
theorem cond7_iff : ∀ k : Fin k0_t1_loop.trips, k0_cond7 k = 1#1 ↔ k.val % 4 = 0 := by decide +kernel
theorem cond8_iff : ∀ k : Fin k0_t1_loop.trips, k0_cond8 k = 1#1 ↔ k.val % 4 = 1 := by decide +kernel
theorem cond9_iff : ∀ k : Fin k0_t1_loop.trips, k0_cond9 k = 1#1 ↔ k.val % 4 = 2 := by decide +kernel
theorem cond10_iff : ∀ k : Fin k0_t1_loop.trips, k0_cond10 k = 1#1 ↔ k.val % 4 = 3 := by decide +kernel
/-- The tests of a write-out's wait and start. -/
theorem cond11_iff : ∀ k : Fin k0_t1_loop.trips, k0_cond11 k = 1#1 ↔ 2 ≤ k.val := by decide +kernel
theorem cond12_iff : ∀ k : Fin k0_t1_loop.trips, k0_cond12 k = 1#1 ↔ k.val % 2 = 0 := by decide +kernel
theorem cond13_iff : ∀ k : Fin k0_t1_loop.trips, k0_cond13 k = 1#1 ↔ k.val % 2 = 1 := by decide +kernel
theorem cond14_iff : ∀ k : Fin k0_t1_loop.trips, k0_cond14 k = 1#1 ↔ k.val % 2 = 0 := by decide +kernel
theorem cond15_iff : ∀ k : Fin k0_t1_loop.trips, k0_cond15 k = 1#1 ↔ k.val % 2 = 1 := by decide +kernel
/-- The last worker's test. -/
theorem cond16_iff : ∀ L : grid0.Coords, k0_cond16 L = 1#1 ↔ wid L = 31 := by decide +kernel

/-- The row and column a main round's load reads, point `p` of group `k₂`. -/
theorem off12_fin : ∀ (k : Fin k0_t1_loop.trips) (k₂ : Fin k0_t2_loop.trips) (p : Fin 35),
    k0_off12 k k₂ (BitVec.ofNat 32 p.val) = ![40 * (k.val % 4) + p.val, 16 * k₂.val] := by decide +kernel

theorem off12_at (k : Fin k0_t1_loop.trips) (k₂ : Fin k0_t2_loop.trips) (p : ℕ) (hp : p < 35) :
    k0_off12 k k₂ (BitVec.ofNat 32 p) = ![40 * (k.val % 4) + p, 16 * k₂.val] := off12_fin k k₂ ⟨p, hp⟩

/-- The row and column a main round's store writes, group `k₂`. -/
theorem off13_at : ∀ (k : Fin k0_t1_loop.trips) (k₂ : Fin k0_t2_loop.trips),
    k0_off13 k k₂ = ![8 * (k.val % 2), 16 * k₂.val] := by decide +kernel

/-- The first voxel of round `j`'s block, in the forms the kernel's offsets take. -/
theorem blk_eq (L : grid0.Coords) (j : ℕ) : 4096 * j + 256 * (L 1).val + 128 * (L 0).val = 128 * (32 * j + wid L) := by
  unfold wid wNo; ring

end Cert.Proof.K

end
-- ==== Proof.Tile.lean ====
/-
  One vector subcore's steps, each as a rule: start a fetch into a slot, wait for it, write a row of classes out, wait
  for that. A fetch in flight is carried as what its slot will hold, a write-out in flight as what its block of the
  classes' array will hold.
-/
module

public import proofs.«01_k».proof.Proof.Geom
public import proofs.«01_k».proof.Proof.Arith

@[expose] public section

noncomputable section

namespace Cert.Proof.K

open Cert.KernelIdeal Cert.KernelIdeal.Gen Cert.Vote

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono)

variable {F : FTy → Type} [FloatOps F]

local notation "𝕄" => MT nD τ sig (HIx 1) (Elt F) ℕ UU ℕ

variable (m : (ℓ : Loc nD τ sig) → Buf (Elt F) ℓ) (d : Dev nD) (L : grid0.Coords)

/-- The task's SparseCore, vector subcore and thread. -/
abbrev cV (L : grid0.Coords) : Fin τ.nSC := (L 0).castLE hcore0
abbrev jV (L : grid0.Coords) : Fin τ.nSub := (L 1).castLE hsub0
abbrev thr : Thread nD τ := V d (cV L) (jV L)

abbrev inLoc : Loc nD τ sig := (thr d L).loc cc0_scratch0
abbrev midLoc : Loc nD τ sig := (thr d L).loc cc0_scratch1
abbrev outLoc : Loc nD τ sig := (thr d L).loc cc0_scratch2

/-- What a fetch, the short fetch, a write-out and the short write-out credit their semaphore. -/
abbrev NI : ℕ := sig.dmaCredit .scVector (Kind.scVector.table .vmem) (cc0_scratch0 : Ref sig .scVector).idx S35x128 .f32
abbrev NM : ℕ := sig.dmaCredit .scVector (Kind.scVector.table .vmem) (cc0_scratch1 : Ref sig .scVector).idx S35x80 .f32
abbrev NO : ℕ := sig.dmaCredit .scVector (Kind.scVector.table .hbm) (main_v1_scv : Ref sig .scVector).idx S128 .i32
abbrev NT : ℕ := sig.dmaCredit .scVector (Kind.scVector.table .hbm) (main_v1_scv : Ref sig .scVector).idx S80 .i32
theorem NI_pos : 0 < NI := sig.dmaCredit_pos _ _ _ _ _ (by decide)
theorem NM_pos : 0 < NM := sig.dmaCredit_pos _ _ _ _ _ (by decide)
theorem NO_pos : 0 < NO := sig.dmaCredit_pos _ _ _ _ _ (by decide)
theorem NT_pos : 0 < NT := sig.dmaCredit_pos _ _ _ _ _ (by decide)

/-! ## What the buffers hold -/

/-- Slot `s` of the input buffer holds block `b`: at row `p` of the slot and lane `c`, the transposed copy at point `p`,
    channel seven, voxel `128 * b + c`. -/
def inHolds (s b : ℕ) : sProp 𝕄 :=
  iprop(∃ f : Buf (Elt F) (inLoc d L), ⌜∀ (i : S160x128.Idx) (p : Fin 35) (h : 128 * b + (i 1).val < 50000), (i 0).val = 40 * s + p.val →
      (f i : F .f32) = tv m d (ix3 p (7 : Fin 8) (⟨128 * b + (i 1).val, h⟩ : Fin 50000))⌝ ∗ inLoc d L ↦[slotSet s]{fullShare} f)

/-- Slot `s` of the input buffer, whatever it holds. -/
def slotAny (s : ℕ) : sProp 𝕄 := iprop(∃ f : Buf (Elt F) (inLoc d L), inLoc d L ↦[slotSet s]{fullShare} f)

theorem inHolds_any (s b : ℕ) : inHolds m d L s b ⊢ slotAny (F := F) d L s := by
  unfold inHolds slotAny
  iintro ⟨%f, -, H⟩; iexists f; iexact H

/-- Row `r` of the output buffer, whatever it holds. -/
def rowAny (r : ℕ) : sProp 𝕄 := iprop(∃ g : Buf (Elt F) (outLoc d L), outLoc d L ↦[rowSet r]{fullShare} g)

/-- Row `r` of the output buffer holds, in its first `n` lanes, the classes of the voxels from `a` on. -/
def rowHolds (r a n : ℕ) : sProp 𝕄 :=
  iprop(∃ g : Buf (Elt F) (outLoc d L), ⌜∀ (i : S16x128.Idx) (h : a + (i 1).val < 50000), (i 0).val = r → (i 1).val < n →
      (g i : BitVec 32) = resAt m d (⟨a + (i 1).val, h⟩ : Fin 50000)⌝ ∗ outLoc d L ↦[rowSet r]{fullShare} g)

theorem rowHolds_any (r a n : ℕ) : rowHolds m d L r a n ⊢ rowAny (F := F) d L r := by
  unfold rowHolds rowAny
  iintro ⟨%f, -, H⟩; iexists f; iexact H

theorem rowAny_holds (r a : ℕ) : rowAny d L r ⊢ rowHolds m d L r a 0 := by
  unfold rowHolds rowAny
  iintro ⟨%f, H⟩; iexists f; isplitr
  · ipureintro; intro i _ _ h; exact absurd h (Nat.not_lt_zero _)
  iexact H

/-- What the thread owes, with waits of its own recorded beyond `W`. -/
def owesBox (O : CellTallies nD τ sig (HIx 1)) (W : Waits sig (HIx 1)) : sProp 𝕄 :=
  iprop(∃ W', ⌜∀ p ∈ W', p ∈ W ∨ p.2 = none⌝ ∗ owes (thr d L) O W')

/-! ## The share of the transposed copy -/

/-- A share splits in two, so that a fetch may take one half and the task keep the other. -/
theorem vShare_split (S : Finset S35x8x50000.Idx) :
    vShare m d ⊢ iprop(vShare m d ∗ ∃ q, (vV.view.loc (thr d L)) ↦[S]{q} tv m d) := by
  unfold vShare
  iintro ⟨%q, H⟩
  ihave H' := (pointsTo_share (PosShare.mem_left_op_right q)).1 $$ H
  icases H' with ⟨Hl, Hr⟩
  isplitl [Hl]; · iexists _; iexact Hl
  ihave H' := (pointsTo_split_subset (Finset.subset_univ S)).1 $$ Hr
  icases H' with ⟨Hr, -⟩
  iexists _; iexact Hr

/-! ## The steps -/

variable {O : CellTallies nD τ sig (HIx 1)} {W : Waits sig (HIx 1)}

/-- Start a fetch of block `b` into slot `s` on the semaphore `sem`. -/
theorem start_in {s b : ℕ} {sem : DmaSem sig} {o : Fin 2 → ℕ} {off : Fin 3 → ℕ}
    {inbo : ∀ a, o a + S35x128.size a ≤ S160x128.size a} {inb : ∀ a, off a + S35x1x128.size a ≤ S35x8x50000.size a}
    {hsrc hdst hsem} {k : PUnit → Prog (TpuEff nD τ sig (Elt F) Λ₀ (thr d L).2) PUnit} {Q : PUnit → sProp 𝕄}
    (ho : o = ![40 * s, 0]) (hoff : off = ![0, 7, 128 * b]) (hb : b < 390) :
    iprop(vShare m d ∗ semVal (thr d L, .dma sem) 0 ∗ slotAny d L s)
      ⊢ iprop((iprop(vShare m d ∗ Flight countersEmb (thr d L) (.dma sem) none NI (inHolds m d L s b))
            -∗ wp frame (wpE (defs₀ (F := F)) 𝒱₀ (thr d L) none) Set.univ (k ⟨⟩) Q)
          -∗ wp frame (wpE (defs₀ (F := F)) 𝒱₀ (thr d L) none) Set.univ
            (.op (.enqueueDma ((vV.slice (Rect.unit (s := S35x8x50000) off S35x1x128.size inb) (fun _ => rfl)).squeeze S35x128 squeezes_S35x1x128_S35x128)
              (.here (inV.slice (Rect.unit (s := S160x128) o S35x128.size inbo) (fun _ => rfl))) (.dma sem) hsrc hdst hsem) k) Q) := by
  unfold slotAny
  iintro ⟨Hv, Hs, %f, Hd⟩ Hk
  ihave H := (vShare_split m d L ((vV.slice (Rect.unit (s := S35x8x50000) off S35x1x128.size inb) (fun _ => rfl)).squeeze S35x128 squeezes_S35x1x128_S35x128).view.set) $$ Hv
  icases H with ⟨Hv, %q, Hsrc⟩
  iapply (Transfers.wp_dmaLocal countersEmb 𝒱₀ (thr d L) none (src := (vV.slice (Rect.unit (s := S35x8x50000) off S35x1x128.size inb) (fun _ => rfl)).squeeze S35x128 squeezes_S35x1x128_S35x128)
      (dst := inV.slice (Rect.unit (s := S160x128) o S35x128.size inbo) (fun _ => rfl)) (fs := tv m d) (fd := f) (Sd := slotSet s)
      (none : HIx 1) NI rfl NI_pos (in_set o inbo ho)) $$ [Hsrc Hd Hs]
  · isplitl [Hsrc]; · iexact Hsrc
    isplitl [Hd]; · iexact Hd
    iexact Hs
  iintro HF
  iapply Hk
  isplitl [Hv]; · iexact Hv
  iapply (Flight_mono countersEmb (thr d L) ?hm) $$ HF
  case hm =>
    unfold inHolds
    iintro ⟨H, -⟩
    iexists _
    isplitr
    rotate_left
    · iexact H
    ipureintro
    intro i p h hi
    refine (in_write o inbo ho f _ i p hi).trans ?_
    exact src_read (tv m d) off inb hoff squeezes_S35x1x128_S35x128 p (i 1) h

theorem owesBox_insert (sem : DmaSem sig) {W' : Waits sig (HIx 1)} (hW' : ∀ p ∈ W', p ∈ W ∨ p.2 = none) :
    (owes (thr d L) O (insert (SemLoc.dma sem, none) W') : sProp 𝕄) ⊢ owesBox d L O W := by
  unfold owesBox
  iintro H
  iexists _
  isplitr
  rotate_left
  · iexact H
  ipureintro
  intro p hp
  rcases Finset.mem_insert.mp hp with hp | hp
  · exact .inr (hp ▸ rfl)
  · exact hW' p hp

/-- Wait for a transfer in flight: its delivery, the semaphore back at zero. -/
theorem wait_on {sem : DmaSem sig} {N : ℕ} {Dl : sProp 𝕄} {sp sp' : Space} {s s' : Shape} {e e' : EltTy}
    {srcw : Memref sig (thr d L).2.kind sp' s' e'} {dstw : Memref sig .scVector sp s e} {hsrc : srcw.view.WordExact} {hdst : dstw.view.WordExact}
    {k : PUnit → Prog (TpuEff nD τ sig (Elt F) Λ₀ (thr d L).2) PUnit} {Q : PUnit → sProp 𝕄}
    (hN : dstw.view.dmaCredit = N) (hO : ∀ g, O g none = 0) :
    iprop(levAts (K (F := F)).L (K (F := F)).lev ∗ Flight countersEmb (thr d L) (.dma sem) none N Dl ∗ owesBox d L O W)
      ⊢ iprop((iprop(Dl ∗ semVal (thr d L, .dma sem) 0 ∗ owesBox d L O W)
            -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  unfold owesBox
  iintro ⟨Hlv, HF, %W', %hW', HO⟩ Hk
  iapply (Transfers.wp_waitLocalO countersEmb 𝒱₀ (thr d L) none (none : HIx 1) hN) $$ [Hlv HF HO]
  · isplitl [HF]; · iexact HF
    isplitl [HO]; · iexact HO
    iapply ((K (F := F)).mayWait_none (SemLoc.dma sem) hO); iexact Hlv
  iintro ⟨HD, Hs, HO⟩
  iapply Hk
  isplitl [HD]; · iexact HD
  isplitl [Hs]; · iexact Hs
  ihave H := (owesBox_insert d L sem hW') $$ HO
  unfold owesBox; iexact H

/-- The first `n` lanes of row `r`, and the rest of the row, whatever they hold. -/
def partAny (r n : ℕ) : sProp 𝕄 := iprop(∃ g : Buf (Elt F) (outLoc d L), outLoc d L ↦[partSet r n]{fullShare} g)
def restAny (r n : ℕ) : sProp 𝕄 := iprop(∃ g : Buf (Elt F) (outLoc d L), outLoc d L ↦[rowSet r \ partSet r n]{fullShare} g)

theorem part_rest (r n : ℕ) : iprop(partAny d L r n ∗ restAny d L r n) ⊢ rowAny (F := F) d L r := by
  unfold partAny restAny rowAny
  iintro ⟨⟨%g, H⟩, %g', H'⟩
  iexists _
  iapply (pointsTo_join_subset (part_sub r n))
  isplitl [H]; · iexact H
  iexact H'

theorem partAny_full (r : ℕ) : (partAny d L r 128 : sProp 𝕄) = rowAny d L r := by
  unfold partAny rowAny; rw [part_full]

/-- Write a row of `n` classes out to the voxels from `a` on, on the semaphore `sem`: in flight, the voxels at their
    classes and the lanes read back. -/
theorem start_out {r a n : ℕ} {sem : DmaSem sig} {o : Fin 2 → ℕ} {off : Fin 1 → ℕ} {N : ℕ}
    {inbo : ∀ b, o b + (⟨2, ![1, n]⟩ : Shape).size b ≤ S16x128.size b} {inb : ∀ b, off b + (⟨1, ![n]⟩ : Shape).size b ≤ S50000.size b}
    {hsq : (⟨2, ![1, n]⟩ : Shape).Squeezes ⟨1, ![n]⟩}
    {hsrc hdst hsem} {k : PUnit → Prog (TpuEff nD τ sig (Elt F) Λ₀ (thr d L).2) PUnit} {Q : PUnit → sProp 𝕄} {f : Buf (Elt F) (oLoc d)}
    (ho : o = ![r, 0]) (hoff : off = ![a]) (hr : r < 16) (hn : n ≤ 128) (ha : a + n ≤ 50000)
    (hN : (oV.slice (Rect.unit (s := S50000) off (⟨1, ![n]⟩ : Shape).size inb) (fun _ => rfl)).view.amount (.dma sem) = N) (hN0 : 0 < N) :
    iprop(rowHolds m d L r a n ∗ semVal (thr d L, .dma sem) 0 ∗ oLoc d ↦[spanSet a n]{fullShare} f)
      ⊢ iprop((iprop(Flight countersEmb (thr d L) (.dma sem) none N iprop((oLoc d ↦[spanSet a n]{fullShare} res m d) ∗ partAny d L r n) ∗ restAny d L r n)
            -∗ wp frame (wpE (defs₀ (F := F)) 𝒱₀ (thr d L) none) Set.univ (k ⟨⟩) Q)
          -∗ wp frame (wpE (defs₀ (F := F)) 𝒱₀ (thr d L) none) Set.univ
            (.op (.enqueueDma ((outV.slice (Rect.unit (s := S16x128) o (⟨2, ![1, n]⟩ : Shape).size inbo) (fun _ => rfl)).squeeze ⟨1, ![n]⟩ hsq)
              (.here (oV.slice (Rect.unit (s := S50000) off (⟨1, ![n]⟩ : Shape).size inb) (fun _ => rfl))) (.dma sem) hsrc hdst hsem) k) Q) := by
  unfold rowHolds
  iintro ⟨⟨%g, %hg, Hr⟩, Hs, Hd⟩ Hk
  have hset := out_src_set o inbo ho hsq
  ihave H := (pointsTo_split_subset (hset.trans_subset (part_sub r n))).1 $$ Hr
  icases H with ⟨Hsrc, Hrest⟩
  iapply (Transfers.wp_dmaLocal countersEmb 𝒱₀ (thr d L) none (src := (outV.slice (Rect.unit (s := S16x128) o (⟨2, ![1, n]⟩ : Shape).size inbo) (fun _ => rfl)).squeeze ⟨1, ![n]⟩ hsq)
      (dst := oV.slice (Rect.unit (s := S50000) off (⟨1, ![n]⟩ : Shape).size inb) (fun _ => rfl)) (fs := g) (fd := f) (Sd := spanSet a n)
      (none : HIx 1) N hN hN0 (o_set off inb hoff).subset) $$ [Hsrc Hd Hs]
  · isplitl [Hsrc]; · iexact Hsrc
    isplitl [Hd]; · iexact Hd
    iexact Hs
  iintro HF
  iapply Hk
  isplitl [HF]
  · iapply (Flight_mono countersEmb (thr d L) ?hm) $$ HF
    case hm =>
      iintro ⟨Ho, Hp⟩
      isplitl [Ho]
      · iapply (Entails.of_eq (pointsTo_congr ?hc)) $$ Ho
        case hc =>
          intro i hi
          simp only [spanSet, Finset.mem_filter, Finset.mem_univ, true_and] at hi
          have hi' : a ≤ (i 0).val ∧ (i 0).val < a + n := hi
          have hc : (i 0).val - a < n := by omega
          refine (o_write off inb hoff f _ i ⟨(i 0).val - a, hc⟩ (by show (i 0).val = a + ((i 0).val - a); omega)).trans ?_
          refine (out_read g o inbo ho hsq ⟨(i 0).val - a, hc⟩ hr (by show (i 0).val - a < 128; omega)).trans ?_
          refine (hg _ (by show a + ((i 0).val - a) < 50000; omega) rfl hc).trans ?_
          show resAt m d _ = resAt m d (i 0)
          congr 1
          apply Fin.ext
          show a + ((i 0).val - a) = (i 0).val; omega
      · unfold partAny
        iexists g
        ihave H := (Entails.of_eq (congrArg (fun S => (outLoc d L ↦[S]{fullShare} g : sProp 𝕄)) hset)) $$ Hp
        iexact H
  · unfold restAny
    iexists g
    ihave H := (Entails.of_eq (congrArg (fun S => (outLoc d L ↦[rowSet r \ S]{fullShare} g : sProp 𝕄)) hset)) $$ Hrest
    iexact H

end Cert.Proof.K

end
-- ==== Proof.Group.lean ====
/-
  One group of sixteen voxels in a main round: thirty-five loads of a slot's rows, the vote of their words lane by lane,
  one store of the sixteen classes into the round's row.
-/
module

public import proofs.«01_k».proof.Proof.Tile

@[expose] public section

noncomputable section

namespace Cert.Proof.K

open Cert.KernelIdeal Cert.KernelIdeal.Gen Cert.Vote

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-- A main round's load of point `b` of group `k₂` stays in the round's slot. -/
theorem sub12 (k : Fin k0_t1_loop.trips) (k₂ : Fin k0_t2_loop.trips) (b : BitVec 32)
    (inb : ∀ a, k0_off12 k k₂ b a + S1x16.size a ≤ S160x128.size a) (hb : b.toNat < 35) :
    inV.view.setOn (Rect.unit (s := S160x128) (k0_off12 k k₂ b) S1x16.size inb).toLoadRect.set ⊆ slotSet (k.val % 4) := by
  have h := off12_at k k₂ b.toNat hb
  rw [BitVec.ofNat_toNat, BitVec.setWidth_eq] at h
  exact in_load_sub _ _ h hb

/-- A load of the input buffer, part of it held. -/
theorem load_in {S : Finset S160x128.Idx} {o : Fin 2 → ℕ} {inb : ∀ a, o a + S1x16.size a ≤ S160x128.size a} {hl} {f : Buf (Elt F) (inLoc d L)}
    {kk : Vec F S1x16 .f32 → Prog (TpuEff nD τ sig (Elt F) Λ₀ (thr d L).2) PUnit} {Q : PUnit → sProp 𝕄}
    (hS : inV.view.setOn (Rect.unit (s := S160x128) o S1x16.size inb).toLoadRect.set ⊆ S) :
    (inLoc d L ↦[S]{fullShare} f)
      ⊢ iprop(((inLoc d L ↦[S]{fullShare} f) -∗ wp frame (wpE (defs₀ (F := F)) 𝒱₀ (thr d L) none) Set.univ
            (kk (inV.view.readAt (Elt F) (Rect.unit (s := S160x128) o S1x16.size inb).toLoadRect f)) Q)
          -∗ wp frame (wpE (defs₀ (F := F)) 𝒱₀ (thr d L) none) Set.univ
              (.op (.load inV (Rect.unit (s := S160x128) o S1x16.size inb).toLoadRect hl) kk) Q) :=
  wp_load (Γ := .empty) (defs := defs₀ (F := F)) (m := inV) (r := (Rect.unit (s := S160x128) o S1x16.size inb).toLoadRect) (hl := hl) (k := kk)
    (Q := Q) (f := f) (q := fullShare) 𝒱₀ (thr d L) none Set.univ hS

/-- A load of a row of the output buffer, whose value nothing reads. -/
theorem load_out {r : ℕ} {o : Fin 2 → ℕ} {inb : ∀ a, o a + S1x16.size a ≤ S16x128.size a} {hl} {g : Buf (Elt F) (outLoc d L)}
    {kk : Vec F S1x16 .i32 → Prog (TpuEff nD τ sig (Elt F) Λ₀ (thr d L).2) PUnit} {Q : PUnit → sProp 𝕄} (ho : o 0 = r) :
    (outLoc d L ↦[rowSet r]{fullShare} g)
      ⊢ iprop(((outLoc d L ↦[rowSet r]{fullShare} g) -∗ wp frame (wpE (defs₀ (F := F)) 𝒱₀ (thr d L) none) Set.univ
            (kk (outV.view.readAt (Elt F) (Rect.unit (s := S16x128) o S1x16.size inb).toLoadRect g)) Q)
          -∗ wp frame (wpE (defs₀ (F := F)) 𝒱₀ (thr d L) none) Set.univ
              (.op (.load outV (Rect.unit (s := S16x128) o S1x16.size inb).toLoadRect hl) kk) Q) :=
  wp_load (Γ := .empty) (defs := defs₀ (F := F)) (m := outV) (r := (Rect.unit (s := S16x128) o S1x16.size inb).toLoadRect) (hl := hl) (k := kk)
    (Q := Q) (f := g) (q := fullShare) 𝒱₀ (thr d L) none Set.univ (out_load_sub o inb ho)

/-- A store of sixteen classes into a row of the output buffer: the row's classes reach sixteen lanes further. -/
theorem store_out {r a c : ℕ} {o : Fin 2 → ℕ} {inb : ∀ a, o a + S1x16.size a ≤ S16x128.size a} {hs hm} {w : S1x16.Idx → BitVec 32}
    {kk : PUnit → Prog (TpuEff nD τ sig (Elt F) Λ₀ (thr d L).2) PUnit} {Q : PUnit → sProp 𝕄} (ho : o = ![r, c])
    (hw : ∀ (j : Fin 16) (h : a + (c + j.val) < 50000), w (ix2 (0 : Fin 1) j) = resAt m d (⟨a + (c + j.val), h⟩ : Fin 50000)) :
    rowHolds m d L r a c
      ⊢ iprop((rowHolds m d L r a (c + 16) -∗ wp frame (wpE (defs₀ (F := F)) 𝒱₀ (thr d L) none) Set.univ (kk ⟨⟩) Q)
          -∗ wp frame (wpE (defs₀ (F := F)) 𝒱₀ (thr d L) none) Set.univ
              (.op (.store outV (Rect.unit (s := S16x128) o S1x16.size inb) w Finset.univ hs hm) kk) Q) := by
  have ho' : o 0 = r := by rw [ho]; rfl
  unfold rowHolds
  iintro ⟨%g, %hg, Ho⟩ Hk
  iapply (wp_store 𝒱₀ (thr d L) none Set.univ (out_store_sub o inb ho')) $$ Ho
  iintro Ho
  iapply Hk
  iexists _
  isplitr
  rotate_left
  · iexact Ho
  ipureintro
  intro i h hi hc
  refine (out_store o inb ho g w i hi).trans ?_
  by_cases hcc : c ≤ (i 1).val ∧ (i 1).val < c + 16
  · rw [dif_pos hcc]
    have hj : c + ((i 1).val - c) = (i 1).val := by omega
    refine (hw ⟨(i 1).val - c, by omega⟩ (by show a + (c + ((i 1).val - c)) < 50000; omega)).trans ?_
    congr 1
    apply Fin.ext
    show a + (c + ((i 1).val - c)) = a + (i 1).val; omega
  · rw [dif_neg hcc]
    exact hg i h hi (by omega)

theorem rowHolds_pts (r a n : ℕ) : rowHolds m d L r a n ⊢ iprop(∃ g : Buf (Elt F) (outLoc d L),
    ⌜∀ (i : S16x128.Idx) (h : a + (i 1).val < 50000), (i 0).val = r → (i 1).val < n →
      (g i : BitVec 32) = resAt m d (⟨a + (i 1).val, h⟩ : Fin 50000)⌝ ∗ outLoc d L ↦[rowSet r]{fullShare} g) := by
  unfold rowHolds; iintro H; iexact H

theorem pts_rowHolds (r a n : ℕ) {g : Buf (Elt F) (outLoc d L)} (hg : ∀ (i : S16x128.Idx) (h : a + (i 1).val < 50000), (i 0).val = r → (i 1).val < n →
      (g i : BitVec 32) = resAt m d (⟨a + (i 1).val, h⟩ : Fin 50000)) : (outLoc d L ↦[rowSet r]{fullShare} g) ⊢ rowHolds m d L r a n := by
  unfold rowHolds; iintro H; iexists g; isplitr
  · ipureintro; exact hg
  iexact H

set_option maxRecDepth 65536 in
set_option maxHeartbeats 4000000 in
/-- One group of a main round: the row's classes reach sixteen lanes further. -/
theorem group_body (k : Fin k0_t1_loop.trips) (k₂ : Fin k0_t2_loop.trips) (h6 : k0_cond6 L k = 1#1) (v1 v92 : BitVec 32) (b : ℕ) (hb : b < 390) :
    iprop(inHolds m d L (k.val % 4) b ∗ rowHolds m d L (8 * (k.val % 2)) (128 * b) (16 * k₂.val))
      ⊢ wp frame (wpE (defs₀ (F := F)) 𝒱₀ (thr d L) none) Set.univ
          (k0_t2_body L vV (Memref.isWhole_whole _) oV (Memref.isWhole_whole _) inV (Memref.isWhole_whole _) midV (Memref.isWhole_whole _) outV (Memref.isWhole_whole _)
            cc0_scratch3 cc0_scratch4 cc0_scratch5 cc0_scratch6 cc0_scratch7 cc0_scratch8 cc0_scoped0 cc0_scoped1 v1 k0_pay42 k0_pay43 k0_pay44 k0_pay45 k h6 v92 k₂ ⟨⟩)
          fun _ => iprop(inHolds m d L (k.val % 4) b ∗ rowHolds m d L (8 * (k.val % 2)) (128 * b) (16 * (k₂.val + 1))) := by
  unfold k0_t2_body
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [Prog.lift, Prog.bind_op, Prog.bind_ret, Prog.pure_eq_ret]
  unfold inHolds
  iintro ⟨⟨%f, %hf, Hi⟩, Ho⟩
  iterate 35
    iapply (load_in d L (sub12 k k₂ _ _ (by decide))) $$ Hi
    iintro Hi
  ihave Ho' := (rowHolds_pts m d L _ _ _) $$ Ho
  icases Ho' with ⟨%g, %hg, Ho⟩
  iapply (load_out d L (r := 8 * (k.val % 2)) (by rw [off13_at]; rfl)) $$ Ho
  iintro Ho
  ihave Ho' := (pts_rowHolds m d L _ _ _ hg) $$ Ho
  iapply (store_out m d L (r := 8 * (k.val % 2)) (a := 128 * b) (c := 16 * k₂.val) (off13_at k k₂) ?hw) $$ Ho'
  case hw =>
    intro j h
    let x : Fin 35 → Vec F S1x16 .f32 := fun p =>
      inV.view.readAt (Elt F) (Rect.unit (s := S160x128) (k0_off12 k k₂ (BitVec.ofNat 32 p.val)) S1x16.size (k0_off12_inb L k k₂ h6 p)).toLoadRect f
    refine (shapeCast_a_1a_apply (groupVec x) shapeCasts_S16_S1x16 (0 : Fin 1) j).trans ?_
    refine (groupVec_apply x j).trans ?_
    show (vote _ : BitVec 32) = vote _
    congr 1; funext p; congr 1
    have h2 := lt8 k₂
    have hp := p.isLt
    have hj := j.isLt
    have hk : k.val % 4 < 4 := Nat.mod_lt _ (by decide)
    refine (in_load _ _ (off12_at k k₂ p.val p.isLt) f j (by omega) (by omega)).trans ?_
    refine (hf _ p (by show 128 * b + (16 * k₂.val + j.val) < 50000; exact h) rfl).trans ?_
    rfl
  iintro Ho
  rw [wp_ret]
  imodintro
  isplitl [Hi]
  · iexists f; isplitr
    · ipureintro; exact hf
    iexact Hi
  iexact Ho

/-! ## A group of the short block -/

/-- Where the short block's group `k₃` reads its thirty-five rows. -/
def offMid (k₃ : Fin k0_t3_loop.trips) : Fin 35 → Fin 2 → ℕ :=
  ![k0_off17 k₃, k0_off18 k₃, k0_off19 k₃, k0_off20 k₃, k0_off21 k₃, k0_off22 k₃, k0_off23 k₃, k0_off24 k₃, k0_off25 k₃, k0_off26 k₃, k0_off27 k₃, k0_off28 k₃, k0_off29 k₃, k0_off30 k₃, k0_off31 k₃, k0_off32 k₃, k0_off33 k₃, k0_off34 k₃, k0_off35 k₃, k0_off36 k₃, k0_off37 k₃, k0_off38 k₃, k0_off39 k₃, k0_off40 k₃, k0_off41 k₃, k0_off42 k₃, k0_off43 k₃, k0_off44 k₃, k0_off45 k₃, k0_off46 k₃, k0_off47 k₃, k0_off48 k₃, k0_off49 k₃, k0_off50 k₃, k0_off51 k₃]

theorem offMid_at : ∀ (k₃ : Fin k0_t3_loop.trips) (p : Fin 35), offMid k₃ p = ![p.val, 16 * k₃.val] := by decide +kernel

theorem offMid_inb (k₃ : Fin k0_t3_loop.trips) (p : Fin 35) : ∀ a, offMid k₃ p a + S1x16.size a ≤ S35x80.size a := by
  have h := lt5 k₃
  have hp := p.isLt
  intro a
  rw [offMid_at]
  match a with
  | 0 => show p.val + 1 ≤ 35; omega
  | 1 => show 16 * k₃.val + 16 ≤ 80; omega

theorem off52_at : ∀ k₃ : Fin k0_t3_loop.trips, k0_off52 k₃ = ![0, 16 * k₃.val] := by decide +kernel

/-- The short buffer holds the last eighty voxels: at row `p` and lane `c`, the transposed copy at point `p`, channel
    seven, voxel `49920 + c`. -/
def midHolds : sProp 𝕄 :=
  iprop(∃ f : Buf (Elt F) (midLoc d L), ⌜∀ (p : Fin 35) (c : Fin 80), (f (ix2 p c) : F .f32) = tv m d (ix3 p (7 : Fin 8) (⟨49920 + c.val, by omega⟩ : Fin 50000))⌝
    ∗ midLoc d L ↦{fullShare} f)

/-- A load of the short buffer, held whole. -/
theorem load_mid {o : Fin 2 → ℕ} {inb : ∀ a, o a + S1x16.size a ≤ S35x80.size a} {hl} {f : Buf (Elt F) (midLoc d L)}
    {kk : Vec F S1x16 .f32 → Prog (TpuEff nD τ sig (Elt F) Λ₀ (thr d L).2) PUnit} {Q : PUnit → sProp 𝕄} :
    (midLoc d L ↦{fullShare} f)
      ⊢ iprop(((midLoc d L ↦{fullShare} f) -∗ wp frame (wpE (defs₀ (F := F)) 𝒱₀ (thr d L) none) Set.univ
            (kk (midV.view.readAt (Elt F) (Rect.unit (s := S35x80) o S1x16.size inb).toLoadRect f)) Q)
          -∗ wp frame (wpE (defs₀ (F := F)) 𝒱₀ (thr d L) none) Set.univ
              (.op (.load midV (Rect.unit (s := S35x80) o S1x16.size inb).toLoadRect hl) kk) Q) :=
  wp_load (Γ := .empty) (defs := defs₀ (F := F)) (m := midV) (r := (Rect.unit (s := S35x80) o S1x16.size inb).toLoadRect) (hl := hl) (k := kk)
    (Q := Q) (f := f) (q := fullShare) 𝒱₀ (thr d L) none Set.univ (Finset.subset_univ _)

set_option maxRecDepth 65536 in
set_option maxHeartbeats 4000000 in
/-- One group of the short block: row zero's classes reach sixteen lanes further. -/
theorem tail_body (k₃ : Fin k0_t3_loop.trips) (h16 : k0_cond16 L = 1#1) :
    iprop(midHolds m d L ∗ rowHolds m d L 0 49920 (16 * k₃.val))
      ⊢ wp frame (wpE (defs₀ (F := F)) 𝒱₀ (thr d L) none) Set.univ
          (k0_t3_body L vV (Memref.isWhole_whole _) oV (Memref.isWhole_whole _) inV (Memref.isWhole_whole _) midV (Memref.isWhole_whole _) outV (Memref.isWhole_whole _)
            cc0_scratch3 cc0_scratch4 cc0_scratch5 cc0_scratch6 cc0_scratch7 cc0_scratch8 cc0_scoped0 cc0_scoped1 k0_pay42 k0_pay43 k0_pay44 k0_pay45 h16 k₃ ⟨⟩)
          fun _ => iprop(midHolds m d L ∗ rowHolds m d L 0 49920 (16 * (k₃.val + 1))) := by
  unfold k0_t3_body
  simp only [k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton]
  unfold k0_part11_skel k0_part12_skel k0_part13_skel k0_part14_skel k0_part15_skel k0_part16_skel k0_part17_skel k0_part18_skel k0_part19_skel
  simp only [Prog.lift, Prog.bind_op, Prog.bind_ret, Prog.pure_eq_ret]
  unfold midHolds
  iintro ⟨⟨%f, %hf, Hi⟩, Ho⟩
  iterate 35
    iapply (load_mid d L) $$ Hi
    iintro Hi
  ihave Ho' := (rowHolds_pts m d L _ _ _) $$ Ho
  icases Ho' with ⟨%g, %hg, Ho⟩
  iapply (load_out d L (r := 0) (by rw [off52_at]; rfl)) $$ Ho
  iintro Ho
  ihave Ho' := (pts_rowHolds m d L _ _ _ hg) $$ Ho
  iapply (store_out m d L (r := 0) (a := 49920) (c := 16 * k₃.val) (off52_at k₃) ?hw) $$ Ho'
  case hw =>
    intro j h
    let x : Fin 35 → Vec F S1x16 .f32 := fun p =>
      midV.view.readAt (Elt F) (Rect.unit (s := S35x80) (offMid k₃ p) S1x16.size (offMid_inb k₃ p)).toLoadRect f
    refine (shapeCast_a_1a_apply (tailVec x) shapeCasts_S16_S1x16 (0 : Fin 1) j).trans ?_
    refine (tailVec_apply x j).trans ?_
    show (vote _ : BitVec 32) = vote _
    congr 1; funext p; congr 1
    have h3 := lt5 k₃
    have hj := j.isLt
    refine (mid_load _ _ (offMid_at k₃ p) f j p.isLt (by omega)).trans ?_
    exact hf p ⟨16 * k₃.val + j.val, by omega⟩
  iintro Ho
  rw [wp_ret]
  imodintro
  isplitl [Hi]
  · iexists f; isplitr
    · ipureintro; exact hf
    iexact Hi
  iexact Ho

end Cert.Proof.K

end
-- ==== Proof.State.lean ====
/-
  What a vector subcore holds between rounds: its three fetches in flight and the free slot, its write-outs in flight or
  free rows, its finished voxels and those still to do; and the steps of `Tile` read over those.
-/
module

public import proofs.«01_k».proof.Proof.Group

@[expose] public section

noncomputable section

namespace Cert.Proof.K

open Cert.KernelIdeal Cert.KernelIdeal.Gen Cert.Vote

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono)
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)
variable {O : CellTallies nD τ sig (HIx 1)} {W : Waits sig (HIx 1)}

/-! ## The voxels done and to do -/

/-- The voxels of worker `w`'s blocks before round `n`, and from it on. -/
def doneSet (w n : ℕ) : Finset S50000.Idx :=
  Finset.univ.filter fun i => (i 0).val / 128 < 390 ∧ (i 0).val / 128 % 32 = w ∧ (i 0).val / 128 / 32 < n
def todoSet (w n : ℕ) : Finset S50000.Idx :=
  Finset.univ.filter fun i => (i 0).val / 128 < 390 ∧ (i 0).val / 128 % 32 = w ∧ n ≤ (i 0).val / 128 / 32

/-- The first voxel of round `j`'s block. -/
abbrev first (j : ℕ) : ℕ := 128 * (32 * j + wid L)

theorem todo_split {j : ℕ} (h : 32 * j + wid L < 390) :
    todoSet (wid L) j = spanSet (first L j) 128 ∪ todoSet (wid L) (j + 1) ∧ Disjoint (spanSet (first L j) 128) (todoSet (wid L) (j + 1)) := by
  have hw := wid_lt L
  constructor
  · ext i
    simp only [todoSet, spanSet, first, Finset.mem_union, Finset.mem_filter, Finset.mem_univ, true_and]
    generalize (i 0).val = n
    omega
  · rw [Finset.disjoint_left]
    intro i
    simp only [todoSet, spanSet, first, Finset.mem_filter, Finset.mem_univ, true_and]
    generalize (i 0).val = n
    omega

theorem done_split {j : ℕ} (h : 32 * j + wid L < 390) :
    doneSet (wid L) (j + 1) = doneSet (wid L) j ∪ spanSet (first L j) 128 ∧ Disjoint (doneSet (wid L) j) (spanSet (first L j) 128) := by
  have hw := wid_lt L
  constructor
  · ext i
    simp only [doneSet, spanSet, first, Finset.mem_union, Finset.mem_filter, Finset.mem_univ, true_and]
    generalize (i 0).val = n
    omega
  · rw [Finset.disjoint_left]
    intro i
    simp only [doneSet, spanSet, first, Finset.mem_filter, Finset.mem_univ, true_and]
    generalize (i 0).val = n
    omega

theorem done_zero (w : ℕ) : doneSet w 0 = ∅ := by
  simp [doneSet]

theorem todo_take {j : ℕ} {f : Buf (Elt F) (oLoc d)} (h : 32 * j + wid L < 390) :
    (oLoc d ↦[todoSet (wid L) j]{fullShare} f : sProp 𝕄)
      ⊢ iprop((oLoc d ↦[spanSet (first L j) 128]{fullShare} f) ∗ oLoc d ↦[todoSet (wid L) (j + 1)]{fullShare} f) := by
  rw [(todo_split L h).1]
  exact (pointsTo_union (todo_split L h).2).1

theorem done_put {j : ℕ} {f : Buf (Elt F) (oLoc d)} (h : 32 * j + wid L < 390) :
    iprop((oLoc d ↦[doneSet (wid L) j]{fullShare} f) ∗ oLoc d ↦[spanSet (first L j) 128]{fullShare} f)
      ⊢ (oLoc d ↦[doneSet (wid L) (j + 1)]{fullShare} f : sProp 𝕄) := by
  rw [(done_split L h).1]
  exact (pointsTo_union (done_split L h).2).2

/-! ## The semaphores and what each slot and row is at -/

/-- Round `j`'s fetch semaphore, by the round's slot; its write-out semaphore, by its parity. -/
def inSem (j : ℕ) : DmaSem sig :=
  if j % 4 = 0 then cc0_scratch3.sem else if j % 4 = 1 then cc0_scratch4.sem else if j % 4 = 2 then cc0_scratch5.sem else cc0_scratch6.sem
def outSem (i : ℕ) : DmaSem sig := if i % 2 = 0 then cc0_scratch7.sem else cc0_scratch8.sem

theorem inSem_0 {j : ℕ} (h : j % 4 = 0) : inSem j = cc0_scratch3.sem := by simp [inSem, h]
theorem inSem_1 {j : ℕ} (h : j % 4 = 1) : inSem j = cc0_scratch4.sem := by simp [inSem, h]
theorem inSem_2 {j : ℕ} (h : j % 4 = 2) : inSem j = cc0_scratch5.sem := by simp [inSem, h]
theorem inSem_3 {j : ℕ} (h : j % 4 = 3) : inSem j = cc0_scratch6.sem := by simp [inSem, h]
theorem outSem_0 {i : ℕ} (h : i % 2 = 0) : outSem i = cc0_scratch7.sem := by simp [outSem, h]
theorem outSem_1 {i : ℕ} (h : i % 2 = 1) : outSem i = cc0_scratch8.sem := by simp [outSem, h]

/-- Round `j`'s slot free: its semaphore at zero, the slot held. -/
def freeIn (j : ℕ) : sProp 𝕄 := iprop(semVal (thr d L, .dma (inSem j)) 0 ∗ slotAny d L (j % 4))

/-- Round `j`'s slot with its fetch in flight, or free when the worker has no round `j`. -/
def stIn (j : ℕ) : sProp 𝕄 :=
  if 32 * j + wid L < 390 then Flight countersEmb (thr d L) (.dma (inSem j)) none NI (inHolds m d L (j % 4) (32 * j + wid L)) else freeIn d L j

/-- Round `i`'s row free. -/
def freeOut (i : ℕ) : sProp 𝕄 := iprop(semVal (thr d L, .dma (outSem i)) 0 ∗ rowAny d L (8 * (i % 2)))

/-- Round `i`'s row before round `i` needs it: round `i - 2`'s write-out in flight, or free in the first two rounds. -/
def stOut (i : ℕ) : sProp 𝕄 :=
  if 2 ≤ i then Flight countersEmb (thr d L) (.dma (outSem i)) none NO
    iprop((oLoc d ↦[spanSet (first L (i - 2)) 128]{fullShare} res m d) ∗ rowAny d L (8 * (i % 2))) else freeOut d L i

theorem freeIn_add (j : ℕ) : (freeIn d L (j + 4) : sProp 𝕄) = freeIn d L j := by
  simp only [freeIn, inSem, Nat.add_mod_right]

theorem stIn_free {j : ℕ} (h : ¬ 32 * j + wid L < 390) : stIn m d L j = freeIn d L j := if_neg h
theorem stOut_free {i : ℕ} (h : ¬ 2 ≤ i) : stOut m d L i = freeOut d L i := if_neg h

/-- Start round `j`'s fetch. -/
theorem start_free {j s : ℕ} {sem : DmaSem sig} {o : Fin 2 → ℕ} {off : Fin 3 → ℕ}
    {inbo : ∀ a, o a + S35x128.size a ≤ S160x128.size a} {inb : ∀ a, off a + S35x1x128.size a ≤ S35x8x50000.size a}
    {hsrc hdst hsem'} {k : PUnit → Prog (TpuEff nD τ sig (Elt F) Λ₀ (thr d L).2) PUnit} {Q : PUnit → sProp 𝕄}
    (hs : j % 4 = s) (hsem : inSem j = sem) (ho : o = ![40 * s, 0]) (hoff : off = ![0, 7, first L j]) (hb : 32 * j + wid L < 390) :
    iprop(vShare m d ∗ freeIn d L j)
      ⊢ iprop((iprop(vShare m d ∗ stIn m d L j)
            -∗ wp frame (wpE (defs₀ (F := F)) 𝒱₀ (thr d L) none) Set.univ (k ⟨⟩) Q)
          -∗ wp frame (wpE (defs₀ (F := F)) 𝒱₀ (thr d L) none) Set.univ
            (.op (.enqueueDma ((vV.slice (Rect.unit (s := S35x8x50000) off S35x1x128.size inb) (fun _ => rfl)).squeeze S35x128 squeezes_S35x1x128_S35x128)
              (.here (inV.slice (Rect.unit (s := S160x128) o S35x128.size inbo) (fun _ => rfl))) (.dma sem) hsrc hdst hsem') k) Q) := by
  subst hs hsem
  unfold freeIn stIn
  rw [if_pos hb]
  exact start_in m d L ho hoff hb

/-- Wait for round `j`'s fetch. -/
theorem wait_in {j : ℕ} {sem : DmaSem sig} {sp sp' : Space} {s s' : Shape} {e e' : EltTy}
    {srcw : Memref sig (thr d L).2.kind sp' s' e'} {dstw : Memref sig .scVector sp s e} {hsrc : srcw.view.WordExact} {hdst : dstw.view.WordExact}
    {k : PUnit → Prog (TpuEff nD τ sig (Elt F) Λ₀ (thr d L).2) PUnit} {Q : PUnit → sProp 𝕄}
    (hsem : inSem j = sem) (hb : 32 * j + wid L < 390) (hN : dstw.view.dmaCredit = NI) (hO : ∀ g, O g none = 0) :
    iprop(levAts (K (F := F)).L (K (F := F)).lev ∗ stIn m d L j ∗ owesBox d L O W)
      ⊢ iprop((iprop(inHolds m d L (j % 4) (32 * j + wid L) ∗ semVal (thr d L, .dma (inSem j)) 0 ∗ owesBox d L O W)
            -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  subst hsem
  unfold stIn
  rw [if_pos hb]
  exact wait_on d L hN hO

/-- Start round `j`'s write-out. -/
theorem start_row {j r : ℕ} {sem : DmaSem sig} {o : Fin 2 → ℕ} {off : Fin 1 → ℕ}
    {inbo : ∀ b, o b + S1x128.size b ≤ S16x128.size b} {inb : ∀ b, off b + S128.size b ≤ S50000.size b}
    {hsrc hdst hsem'} {k : PUnit → Prog (TpuEff nD τ sig (Elt F) Λ₀ (thr d L).2) PUnit} {Q : PUnit → sProp 𝕄} {f : Buf (Elt F) (oLoc d)}
    (hr : 8 * (j % 2) = r) (hsem : outSem j = sem) (ho : o = ![r, 0]) (hoff : off = ![first L j]) (hb : 32 * j + wid L < 390) :
    iprop(rowHolds m d L (8 * (j % 2)) (first L j) 128 ∗ semVal (thr d L, .dma (outSem j)) 0 ∗ oLoc d ↦[spanSet (first L j) 128]{fullShare} f)
      ⊢ iprop((stOut m d L (j + 2)
            -∗ wp frame (wpE (defs₀ (F := F)) 𝒱₀ (thr d L) none) Set.univ (k ⟨⟩) Q)
          -∗ wp frame (wpE (defs₀ (F := F)) 𝒱₀ (thr d L) none) Set.univ
            (.op (.enqueueDma ((outV.slice (Rect.unit (s := S16x128) o S1x128.size inbo) (fun _ => rfl)).squeeze S128 squeezes_S1x128_S128)
              (.here (oV.slice (Rect.unit (s := S50000) off S128.size inb) (fun _ => rfl))) (.dma sem) hsrc hdst hsem') k) Q) := by
  subst hr hsem
  have hE : stOut m d L (j + 2) = Flight countersEmb (thr d L) (.dma (outSem j)) none NO
      iprop((oLoc d ↦[spanSet (first L j) 128]{fullShare} res m d) ∗ partAny d L (8 * (j % 2)) 128) := by
    unfold stOut
    rw [if_pos (by omega), partAny_full]
    simp only [outSem, Nat.add_mod_right, Nat.add_sub_cancel]
  rw [hE]
  iintro H Hk
  iapply (start_out m d L (n := 128) (N := NO) ho hoff (by omega) (by omega) (by show 128 * (32 * j + wid L) + 128 ≤ 50000; omega) rfl NO_pos) $$ H
  iintro ⟨HF, -⟩
  iapply Hk
  iexact HF

/-- Wait for round `i - 2`'s write-out. -/
theorem wait_row {i : ℕ} {sem : DmaSem sig} {sp sp' : Space} {s s' : Shape} {e e' : EltTy}
    {srcw : Memref sig (thr d L).2.kind sp' s' e'} {dstw : Memref sig .scVector sp s e} {hsrc : srcw.view.WordExact} {hdst : dstw.view.WordExact}
    {k : PUnit → Prog (TpuEff nD τ sig (Elt F) Λ₀ (thr d L).2) PUnit} {Q : PUnit → sProp 𝕄}
    (hsem : outSem i = sem) (hi : 2 ≤ i) (hN : dstw.view.dmaCredit = NO) (hO : ∀ g, O g none = 0) :
    iprop(levAts (K (F := F)).L (K (F := F)).lev ∗ stOut m d L i ∗ owesBox d L O W)
      ⊢ iprop((iprop((oLoc d ↦[spanSet (first L (i - 2)) 128]{fullShare} res m d) ∗ freeOut d L i ∗ owesBox d L O W)
            -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  subst hsem
  unfold stOut freeOut
  rw [if_pos hi]
  iintro H Hk
  iapply (wait_on d L hN hO) $$ H
  iintro ⟨⟨Ho, Hr⟩, Hs, HO⟩
  iapply Hk
  isplitl [Ho]; · iexact Ho
  isplitl [Hr Hs]
  · isplitl [Hs]; · iexact Hs
    iexact Hr
  iexact HO

/-! ## Between rounds -/

/-- What the subcore holds before round `k` of its rounds. -/
def Core (O : CellTallies nD τ sig (HIx 1)) (W : Waits sig (HIx 1)) (k : ℕ) : sProp 𝕄 :=
  iprop(levAts (K (F := F)).L (K (F := F)).lev ∗ vShare m d
    ∗ stIn m d L k ∗ stIn m d L (k + 1) ∗ stIn m d L (k + 2) ∗ freeIn d L (k + 3) ∗ stOut m d L k ∗ stOut m d L (k + 1)
    ∗ (oLoc d ↦[doneSet (wid L) (k - 2)]{fullShare} res m d) ∗ (oLoc d ↦[todoSet (wid L) k]{fullShare} m (oLoc d)) ∗ owesBox d L O W)

/-- How many rounds the worker has. -/
def rounds : ℕ := (421 - wid L) / 32

theorem lt_rounds {j : ℕ} : j < rounds L ↔ 32 * j + wid L < 390 := by
  have := wid_lt L
  unfold rounds; omega

theorem rounds_le : rounds L ≤ 13 ∧ 12 ≤ rounds L := by
  have := wid_lt L
  unfold rounds; omega

/-- A part of a program run for what it leaves, the rest from there. -/
theorem wp_cut {p : Prog (TpuEff nD τ sig (Elt F) Λ₀ (thr d L).2) PUnit} {k : PUnit → Prog (TpuEff nD τ sig (Elt F) Λ₀ (thr d L).2) PUnit}
    {Q : PUnit → sProp 𝕄} {A B : sProp 𝕄} (h : A ⊢ wp frame (wpE (defs₀ (F := F)) 𝒱₀ (thr d L) none) Set.univ p fun _ => B) :
    A ⊢ iprop((B -∗ wp frame (wpE (defs₀ (F := F)) 𝒱₀ (thr d L) none) Set.univ (k ⟨⟩) Q)
      -∗ wp frame (wpE (defs₀ (F := F)) 𝒱₀ (thr d L) none) Set.univ (p >>= k) Q) := by
  rw [wp_bind]
  iintro HA HK
  iapply (wp_wand_r frame _ _)
  isplitl [HA]
  · iapply h; iexact HA
  iintro %a HB
  iapply HK
  iexact HB

/-- A counted loop by an invariant, the rest of the program from the invariant at the trip count. -/
theorem loop_bind {w : ℕ} (l : Scf.Loop w) (hok : l.OK) (body : Fin l.trips → PUnit → Prog (TpuEff nD τ sig (Elt F) Λ₀ (thr d L).2) PUnit)
    {kk : PUnit → Prog (TpuEff nD τ sig (Elt F) Λ₀ (thr d L).2) PUnit} {Q : PUnit → sProp 𝕄} (I : ℕ → sProp 𝕄)
    (hbody : ∀ k : Fin l.trips, I k.val ⊢ wp frame (wpE (defs₀ (F := F)) 𝒱₀ (thr d L) none) Set.univ (body k ⟨⟩) fun _ => I (k.val + 1)) :
    I 0 ⊢ iprop((I l.trips -∗ wp frame (wpE (defs₀ (F := F)) 𝒱₀ (thr d L) none) Set.univ (kk ⟨⟩) Q)
      -∗ wp frame (wpE (defs₀ (F := F)) 𝒱₀ (thr d L) none) Set.univ (l.for hok ⟨⟩ body >>= kk) Q) := by
  iintro H Hk
  iapply (Scf.wp_for_bind frame (wpE (defs₀ (F := F)) 𝒱₀ (thr d L) none) Set.univ l.lb l.ub l.st hok ⟨⟩ body (fun k _ => I k) (fun k _ => hbody k)) $$ H
  iintro %_ H
  iapply Hk
  iexact H

end Cert.Proof.K

end
-- ==== Proof.Round.lean ====
/-
  One round of a vector subcore: start the fetch three rounds ahead, wait for this round's, wait for the write-out two
  rounds back, compute the block's classes group by group, start its write-out.
-/
module

public import proofs.«01_k».proof.Proof.State

@[expose] public section

noncomputable section

namespace Cert.Proof.K

open Cert.KernelIdeal Cert.KernelIdeal.Gen Cert.Vote

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono)
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)
variable {O : CellTallies nD τ sig (HIx 1)} {W : Waits sig (HIx 1)}

/-- The start of a fetch's offset, three rounds ahead. -/
theorem ahead_eq (k : ℕ) {off : Fin 3 → ℕ} (h : off = ![0, 7, 4096 * k + 256 * (L 1).val + 128 * (L 0).val + 12288]) :
    off = ![0, 7, first L (k + 3)] := by
  rw [h, first, ← blk_eq L (k + 3)]; congr 3; ring

theorem block_eq (k : ℕ) {off : Fin 1 → ℕ} (h : off = ![4096 * k + 256 * (L 1).val + 128 * (L 0).val]) :
    off = ![first L k] := by
  rw [h, first, ← blk_eq L k]

/-- A step of a program, from what it takes to what it leaves, the rest from there. -/
theorem step_to {p J : Prog (TpuEff nD τ sig (Elt F) Λ₀ (thr d L).2) PUnit} {Q : PUnit → sProp 𝕄} {A B : sProp 𝕄}
    (h : A ⊢ iprop((B -∗ wp frame (wpE (defs₀ (F := F)) 𝒱₀ (thr d L) none) Set.univ J Q)
      -∗ wp frame (wpE (defs₀ (F := F)) 𝒱₀ (thr d L) none) Set.univ p Q)) :
    A ⊢ iprop((B -∗ wp frame (wpE (defs₀ (F := F)) 𝒱₀ (thr d L) none) Set.univ J Q)
      -∗ wp frame (wpE (defs₀ (F := F)) 𝒱₀ (thr d L) none) Set.univ p Q) := h

set_option maxRecDepth 65536 in
set_option maxHeartbeats 4000000 in
theorem round_body (k : Fin k0_t1_loop.trips) (v1 : BitVec 32) (hO : ∀ g, O g none = 0) :
    Core m d L O W (min k.val (rounds L))
      ⊢ wp frame (wpE (defs₀ (F := F)) 𝒱₀ (thr d L) none) Set.univ
          (k0_t1_body L vV (Memref.isWhole_whole _) oV (Memref.isWhole_whole _) inV (Memref.isWhole_whole _) midV (Memref.isWhole_whole _) outV (Memref.isWhole_whole _)
            cc0_scratch3 cc0_scratch4 cc0_scratch5 cc0_scratch6 cc0_scratch7 cc0_scratch8 cc0_scoped0 cc0_scoped1 v1 k0_pay42 k0_pay43 k0_pay44 k0_pay45 k ⟨⟩)
          fun _ => Core m d L O W (min (k.val + 1) (rounds L)) := by
  unfold k0_t1_body
  extract_lets -underBinder -merge +onlyGivenNames arg13 v63 jp0
  by_cases h6 : 32 * k.val + wid L < 390
  swap
  · have c1 : ¬ k0_cond1 L k = 1#1 := fun h => h6 (by have := (cond1_iff L k).1 h; omega)
    have c6 : ¬ k0_cond6 L k = 1#1 := fun h => h6 ((cond6_iff L k).1 h)
    have hk : ¬ k.val < rounds L := fun h => h6 ((lt_rounds L).1 h)
    rw [dif_neg c1, min_eq_right (by omega), min_eq_right (by omega)]
    simp only [jp0, dif_neg c6, Prog.pure_eq_ret]
    rw [wp_ret]
    iintro H; imodintro; iexact H
  have hk : k.val < rounds L := (lt_rounds L).2 h6
  rw [min_eq_left (by omega), min_eq_left (by omega)]
  unfold Core
  iintro ⟨#Hlv, Hv, Hi0, Hi1, Hi2, Hi3, Ho0, Ho1, Hd, Ht, HO⟩
  -- the fetch three rounds ahead
  iapply (step_to d L (A := iprop(vShare m d ∗ freeIn d L (k.val + 3))) (B := iprop(vShare m d ∗ stIn m d L (k.val + 3))) (J := jp0 ⟨⟩) ?ahead) $$ [Hv Hi3]
  case ahead =>
    by_cases h1 : 32 * (k.val + 3) + wid L < 390
    swap
    · rw [dif_neg (fun h => h1 ((cond1_iff L k).1 h)), stIn_free m d L h1]
      iintro H Hk; iapply Hk; iexact H
    rw [dif_pos ((cond1_iff L k).2 h1)]
    have hr : (k.val + 3) % 4 = 0 ∨ (k.val + 3) % 4 = 1 ∨ (k.val + 3) % 4 = 2 ∨ (k.val + 3) % 4 = 3 := by omega
    rcases hr with h | h | h | h
    · simp only [dif_pos ((cond2_iff k).2 h), dif_neg (mt (cond3_iff k).1 (by omega)), dif_neg (mt (cond4_iff k).1 (by omega)),
        dif_neg (mt (cond5_iff k).1 (by omega)), Prog.lift, Prog.bind_op, Prog.bind_ret]
      iintro H Hk
      iapply (start_free m d L h (inSem_0 h) rfl (ahead_eq L k (k0_off2_eq L k)) h1) $$ H
      iexact Hk
    · simp only [dif_pos ((cond3_iff k).2 h), dif_neg (mt (cond2_iff k).1 (by omega)), dif_neg (mt (cond4_iff k).1 (by omega)),
        dif_neg (mt (cond5_iff k).1 (by omega)), Prog.lift, Prog.bind_op, Prog.bind_ret]
      iintro H Hk
      iapply (start_free m d L h (inSem_1 h) rfl (ahead_eq L k (k0_off3_eq L k)) h1) $$ H
      iexact Hk
    · simp only [dif_pos ((cond4_iff k).2 h), dif_neg (mt (cond2_iff k).1 (by omega)), dif_neg (mt (cond3_iff k).1 (by omega)),
        dif_neg (mt (cond5_iff k).1 (by omega)), Prog.lift, Prog.bind_op, Prog.bind_ret]
      iintro H Hk
      iapply (start_free m d L h (inSem_2 h) rfl (ahead_eq L k (k0_off4_eq L k)) h1) $$ H
      iexact Hk
    · simp only [dif_pos ((cond5_iff k).2 h), dif_neg (mt (cond2_iff k).1 (by omega)), dif_neg (mt (cond3_iff k).1 (by omega)),
        dif_neg (mt (cond4_iff k).1 (by omega)), Prog.lift, Prog.bind_op, Prog.bind_ret]
      iintro H Hk
      iapply (start_free m d L h (inSem_3 h) rfl (ahead_eq L k (k0_off5_eq L k)) h1) $$ H
      iexact Hk
  · isplitl [Hv]; · iexact Hv
    iexact Hi3
  iintro ⟨Hv, Hi3⟩
  unfold jp0
  beta_reduce
  rw [dif_pos ((cond6_iff L k).2 h6)]
  extract_lets -merge v92 jp7 a4 a5 jp6 a7 a8 jGroup jp4 a11 a12 a13 a14 jRow a16 jp2 a18 jp1 a20 jpw a22
  -- this round's fetch
  iapply (step_to d L (A := iprop(levAts (K (F := F)).L (K (F := F)).lev ∗ stIn m d L k.val ∗ owesBox d L O W))
    (B := iprop(inHolds m d L (k.val % 4) (32 * k.val + wid L) ∗ semVal (thr d L, .dma (inSem k.val)) 0 ∗ owesBox d L O W)) (J := jRow ⟨⟩) ?fetch) $$ [Hi0 HO]
  case fetch =>
    have hr : k.val % 4 = 0 ∨ k.val % 4 = 1 ∨ k.val % 4 = 2 ∨ k.val % 4 = 3 := by omega
    rcases hr with h | h | h | h
    · simp only [jpw, jp1, jp2, dif_pos ((cond7_iff k).2 h), dif_neg (mt (cond8_iff k).1 (by omega)), dif_neg (mt (cond9_iff k).1 (by omega)),
        dif_neg (mt (cond10_iff k).1 (by omega)), Prog.lift, Prog.bind_op, Prog.bind_ret]
      iintro H Hk
      iapply (wait_in m d L (inSem_0 h) h6 rfl hO) $$ H
      iexact Hk
    · simp only [jpw, jp1, jp2, dif_pos ((cond8_iff k).2 h), dif_neg (mt (cond7_iff k).1 (by omega)), dif_neg (mt (cond9_iff k).1 (by omega)),
        dif_neg (mt (cond10_iff k).1 (by omega)), Prog.lift, Prog.bind_op, Prog.bind_ret]
      iintro H Hk
      iapply (wait_in m d L (inSem_1 h) h6 rfl hO) $$ H
      iexact Hk
    · simp only [jpw, jp1, jp2, dif_pos ((cond9_iff k).2 h), dif_neg (mt (cond7_iff k).1 (by omega)), dif_neg (mt (cond8_iff k).1 (by omega)),
        dif_neg (mt (cond10_iff k).1 (by omega)), Prog.lift, Prog.bind_op, Prog.bind_ret]
      iintro H Hk
      iapply (wait_in m d L (inSem_2 h) h6 rfl hO) $$ H
      iexact Hk
    · simp only [jpw, jp1, jp2, dif_pos ((cond10_iff k).2 h), dif_neg (mt (cond7_iff k).1 (by omega)), dif_neg (mt (cond8_iff k).1 (by omega)),
        dif_neg (mt (cond9_iff k).1 (by omega)), Prog.lift, Prog.bind_op, Prog.bind_ret]
      iintro H Hk
      iapply (wait_in m d L (inSem_3 h) h6 rfl hO) $$ H
      iexact Hk
  · isplitr; · iexact Hlv
    isplitl [Hi0]; · iexact Hi0
    iexact HO
  iintro ⟨Hin, Hs, HO⟩
  -- the write-out two rounds back
  iapply (step_to d L (A := iprop(levAts (K (F := F)).L (K (F := F)).lev ∗ (oLoc d ↦[doneSet (wid L) (k.val - 2)]{fullShare} res m d) ∗ stOut m d L k.val ∗ owesBox d L O W))
    (B := iprop((oLoc d ↦[doneSet (wid L) (k.val + 1 - 2)]{fullShare} res m d) ∗ freeOut d L k.val ∗ owesBox d L O W)) (J := jGroup ⟨⟩) ?row) $$ [Hd Ho0 HO]
  case row =>
    by_cases h2 : 2 ≤ k.val
    swap
    · unfold jRow
      beta_reduce
      rw [dif_neg (mt (cond11_iff k).1 h2), stOut_free m d L h2, show k.val + 1 - 2 = k.val - 2 by omega]
      iintro ⟨-, H⟩ Hk; iapply Hk; iexact H
    have hE : k.val + 1 - 2 = k.val - 2 + 1 := by omega
    have hb : 32 * (k.val - 2) + wid L < 390 := by omega
    rw [hE]
    have hr : k.val % 2 = 0 ∨ k.val % 2 = 1 := by omega
    rcases hr with h | h
    · simp only [jRow, jp4, dif_pos ((cond11_iff k).2 h2), dif_pos ((cond12_iff k).2 h), dif_neg (mt (cond13_iff k).1 (by omega)), Prog.lift, Prog.bind_op, Prog.bind_ret]
      iintro ⟨H1, Hd, H⟩ Hk
      iapply (wait_row m d L (outSem_0 h) h2 rfl hO) $$ [H1 H]
      · isplitl [H1] <;> iassumption
      iintro ⟨Ho, H⟩
      iapply Hk
      isplitl [Hd Ho]
      · iapply (done_put d L hb); isplitl [Hd] <;> iassumption
      iexact H
    · simp only [jRow, jp4, dif_pos ((cond11_iff k).2 h2), dif_pos ((cond13_iff k).2 h), dif_neg (mt (cond12_iff k).1 (by omega)), Prog.lift, Prog.bind_op, Prog.bind_ret]
      iintro ⟨H1, Hd, H⟩ Hk
      iapply (wait_row m d L (outSem_1 h) h2 rfl hO) $$ [H1 H]
      · isplitl [H1] <;> iassumption
      iintro ⟨Ho, H⟩
      iapply Hk
      isplitl [Hd Ho]
      · iapply (done_put d L hb); isplitl [Hd] <;> iassumption
      iexact H
  · isplitr; · iexact Hlv
    isplitl [Hd]; · iexact Hd
    isplitl [Ho0]; · iexact Ho0
    iexact HO
  unfold freeOut
  iintro ⟨Hd, ⟨Hso, Hrow⟩, HO⟩
  -- the block's groups
  unfold jGroup
  beta_reduce
  iapply (loop_bind d L k0_t2_loop _ _ (fun k₂ => iprop(inHolds m d L (k.val % 4) (32 * k.val + wid L) ∗ rowHolds m d L (8 * (k.val % 2)) (first L k.val) (16 * k₂)))
    ?groups) $$ [Hin Hrow]
  case groups =>
    intro k₂
    exact group_body m d L k k₂ _ _ _ _ h6
  · isplitl [Hin]; · iexact Hin
    iapply (rowAny_holds m d L _ _); iexact Hrow
  iintro ⟨Hin, Hrow⟩
  -- the block's write-out
  ihave Hrow' := (Entails.of_eq (show rowHolds m d L (8 * (k.val % 2)) (first L k.val) (16 * k0_t2_loop.trips)
    = rowHolds m d L (8 * (k.val % 2)) (first L k.val) 128 by rw [trips2])) $$ Hrow
  ihave Ht' := (todo_take d L h6) $$ Ht
  icases Ht' with ⟨Hb, Ht⟩
  iapply (step_to d L (A := iprop(rowHolds m d L (8 * (k.val % 2)) (first L k.val) 128 ∗ semVal (thr d L, .dma (outSem k.val)) 0
      ∗ oLoc d ↦[spanSet (first L k.val) 128]{fullShare} m (oLoc d))) (B := stOut m d L (k.val + 2)) (J := Prog.ret ⟨⟩) ?out) $$ [Hrow' Hso Hb]
  case out =>
    have hr : k.val % 2 = 0 ∨ k.val % 2 = 1 := by omega
    rcases hr with h | h
    · simp only [jp6, jp7, dif_pos ((cond14_iff k).2 h), dif_neg (mt (cond15_iff k).1 (by omega)), Prog.lift, Prog.bind_op, Prog.bind_ret, Prog.pure_eq_ret]
      iintro H Hk
      iapply (start_row m d L (by rw [h]) (outSem_0 h) rfl (block_eq L k.val (k0_off14_eq L k)) h6) $$ H
      iexact Hk
    · simp only [jp6, jp7, dif_pos ((cond15_iff k).2 h), dif_neg (mt (cond14_iff k).1 (by omega)), Prog.lift, Prog.bind_op, Prog.bind_ret, Prog.pure_eq_ret]
      iintro H Hk
      iapply (start_row m d L (by rw [h]) (outSem_1 h) rfl (block_eq L k.val (k0_off15_eq L k)) h6) $$ H
      iexact Hk
  · isplitl [Hrow']; · iexact Hrow'
    isplitl [Hso]; · iexact Hso
    iexact Hb
  iintro Ho2
  rw [wp_ret]
  imodintro
  isplitr; · iexact Hlv
  isplitl [Hv]; · iexact Hv
  isplitl [Hi1]; · iexact Hi1
  isplitl [Hi2]; · iexact Hi2
  isplitl [Hi3]; · iexact Hi3
  isplitl [Hs Hin]
  · rw [show k.val + 1 + 3 = k.val + 4 by omega, freeIn_add]
    unfold freeIn
    isplitl [Hs]; · iexact Hs
    iapply (inHolds_any m d L _ _); iexact Hin
  isplitl [Ho1]; · iexact Ho1
  isplitl [Ho2]; · iexact Ho2
  isplitl [Hd]; · iexact Hd
  isplitl [Ht]; · iexact Ht
  iexact HO

end Cert.Proof.K

end
-- ==== Proof.Hold.lean ====
/-
  What a vector subcore owns for its task, in pieces: the eight semaphores at zero, the input buffer as four slots, the
  output buffer as the two rows in use and the rest.
-/
module

public import proofs.«01_k».proof.Proof.State

@[expose] public section

noncomputable section

namespace Cert.Proof.K

open Cert.KernelIdeal Cert.KernelIdeal.Gen Cert.Vote

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono)
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)
variable {O : CellTallies nD τ sig (HIx 1)} {W : Waits sig (HIx 1)}

/-! ## Buffers in pieces -/

/-- Part of an array, whatever it holds. -/
def anyAt {ℓ : Loc nD τ sig} (S : Finset (ℓ.ty.shape.Idx)) : sProp 𝕄 := iprop(∃ f : Buf (Elt F) ℓ, ℓ ↦[S]{fullShare} f)

/-- Part of an array is a smaller part and what is left of it. -/
theorem anyAt_cut {ℓ : Loc nD τ sig} {I J : Finset (ℓ.ty.shape.Idx)} (h : I ⊆ J) :
    (anyAt (F := F) J : sProp 𝕄) ⊣⊢ iprop(anyAt (F := F) I ∗ anyAt (F := F) (J \ I)) := by
  unfold anyAt
  constructor
  · iintro ⟨%f, H⟩
    ihave H' := (pointsTo_split_subset h).1 $$ H
    icases H' with ⟨H1, H2⟩
    isplitl [H1] <;> iexists f <;> iassumption
  · iintro ⟨⟨%g, H⟩, %f, H'⟩
    iexists _
    iapply (pointsTo_join_subset h)
    isplitl [H] <;> iassumption

/-- The input buffer is its four slots. -/
theorem in_slots : (iprop(∃ f, inLoc d L ↦{fullShare} f) : sProp 𝕄)
    ⊣⊢ iprop(slotAny d L 0 ∗ slotAny d L 1 ∗ slotAny d L 2 ∗ slotAny d L 3) := by
  have h1 : slotSet 1 ⊆ Finset.univ \ slotSet 0 := by
    intro i hi; simp only [slotSet, Finset.mem_sdiff, Finset.mem_filter, Finset.mem_univ, true_and] at hi ⊢; omega
  have h2 : slotSet 2 ⊆ (Finset.univ \ slotSet 0) \ slotSet 1 := by
    intro i hi; simp only [slotSet, Finset.mem_sdiff, Finset.mem_filter, Finset.mem_univ, true_and] at hi ⊢; omega
  have h3 : ((Finset.univ \ slotSet 0) \ slotSet 1) \ slotSet 2 = slotSet 3 := by
    ext i
    have : (i 0).val < 160 := (i 0).isLt
    simp only [slotSet, Finset.mem_sdiff, Finset.mem_filter, Finset.mem_univ, true_and]; omega
  have c0 := anyAt_cut (F := F) (ℓ := inLoc d L) (Finset.subset_univ (slotSet 0))
  have c1 := anyAt_cut (F := F) (ℓ := inLoc d L) h1
  have c2 := anyAt_cut (F := F) (ℓ := inLoc d L) h2
  rw [h3] at c2
  exact c0.trans (sep_congr .rfl (c1.trans (sep_congr .rfl c2)))

/-- The output buffer but for the two rows in use. -/
def outRest : sProp 𝕄 := anyAt (F := F) (ℓ := outLoc d L) ((Finset.univ \ rowSet 0) \ rowSet 8)

theorem out_rows : (iprop(∃ f, outLoc d L ↦{fullShare} f) : sProp 𝕄)
    ⊣⊢ iprop(rowAny d L 0 ∗ rowAny d L 8 ∗ outRest d L) := by
  have h1 : rowSet 8 ⊆ Finset.univ \ rowSet 0 := by
    intro i hi; simp only [rowSet, Finset.mem_sdiff, Finset.mem_filter, Finset.mem_univ, true_and] at hi ⊢; omega
  have c0 := anyAt_cut (F := F) (ℓ := outLoc d L) (Finset.subset_univ (rowSet 0))
  have c1 := anyAt_cut (F := F) (ℓ := outLoc d L) h1
  exact c0.trans (sep_congr .rfl c1)

/-! ## The subcore's own semaphores and buffers -/

/-- Its cell of a semaphore. -/
abbrev cell (s : DmaSem sig) : GSem nD τ sig := (thr d L, .dma s)

/-- Its cells but for the eight the task uses. -/
def cellsRest : sProp 𝕄 :=
  bigSep (SparseCore.Cfg.ownCells (thr d L) \ (Finset.univ : Finset (DmaSem sig)).image (cell d L)) fun g => semVal g 0

theorem ownSems0_V : (SparseCore.Cfg.ownSems0 (thr d L) : sProp 𝕄)
    = iprop((semVal (cell d L cc0_scratch3.sem) 0 ∗ semVal (cell d L cc0_scratch4.sem) 0 ∗ semVal (cell d L cc0_scratch5.sem) 0
        ∗ semVal (cell d L cc0_scratch6.sem) 0 ∗ semVal (cell d L cc0_scratch7.sem) 0 ∗ semVal (cell d L cc0_scratch8.sem) 0
        ∗ semVal (cell d L cc0_scoped0.sem) 0 ∗ semVal (cell d L cc0_scoped1.sem) 0) ∗ cellsRest d L) := by
  have hsub : (Finset.univ : Finset (DmaSem sig)).image (cell d L) ⊆ SparseCore.Cfg.ownCells (thr d L) := by
    intro g hg
    obtain ⟨s, -, rfl⟩ := Finset.mem_image.mp hg
    exact SparseCore.Cfg.mem_ownCells.mpr ⟨rfl, (by decide : ∀ s : DmaSem sig, (SemLoc.dma s : SemLoc sig).isScoped .scVector = true) s⟩
  have hinj : Set.InjOn (cell d L) ((Finset.univ : Finset (DmaSem sig)) : Set _) := by
    intro a _ b _ e
    exact SemLoc.dma.inj (Prod.mk.inj e).2
  unfold SparseCore.Cfg.ownSems0 cellsRest
  rw [SparseCore.bigSep_sdiff_split' hsub, SparseCore.bigSep_image_of_injOn hinj,
    show (Finset.univ : Finset (DmaSem sig)) = {cc0_scratch3.sem, cc0_scratch4.sem, cc0_scratch5.sem, cc0_scratch6.sem, cc0_scratch7.sem, cc0_scratch8.sem,
      cc0_scoped0.sem, cc0_scoped1.sem} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- Its buffers but for the three the task uses. -/
def bufsRest : sProp 𝕄 :=
  bigSep ((((SparseCore.Cfg.ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2))
    fun b => iprop(∃ f, ((d, b) : Loc nD τ sig) ↦{fullShare} f)

theorem ownBufs_V : (SparseCore.Cfg.ownBufs (thr d L) : sProp 𝕄)
    = iprop((∃ f, inLoc d L ↦{fullShare} f) ∗ (∃ f, midLoc d L ↦{fullShare} f) ∗ (∃ f, outLoc d L ↦{fullShare} f) ∗ bufsRest d L) := by
  have own (b : Ref sig .scVector) (h : ((Proc.scVector (cV L) (jV L)).devRef b).owner = Owner.proc (Proc.scVector (cV L) (jV L)) := by rfl) :
      (Proc.scVector (cV L) (jV L)).devRef b ∈ SparseCore.Cfg.ownRefs (τ := τ) (.scVector (cV L) (jV L)) := SparseCore.Cfg.mem_ownRefs_of_owner h
  have ne {b b' : Ref sig .scVector} (h : b ≠ b') : (Proc.scVector (cV L) (jV L)).devRef b ≠ (Proc.scVector (cV L) (jV L)).devRef b' :=
    fun e => h (Proc.devRef_injective _ e)
  unfold SparseCore.Cfg.ownBufs bufsRest
  refine (SparseCore.bigSep_erase' (own cc0_scratch0)).trans ?_
  rw [SparseCore.bigSep_erase' (Finset.mem_erase.mpr ⟨ne (by decide), own cc0_scratch1⟩),
    SparseCore.bigSep_erase' (Finset.mem_erase.mpr ⟨ne (by decide), Finset.mem_erase.mpr ⟨ne (by decide), own cc0_scratch2⟩⟩)]

end Cert.Proof.K

end
-- ==== Proof.Drain.lean ====
/-
  The whole task of a vector subcore: three fetches started, thirteen rounds, the last two write-outs waited for, and on
  the last worker the eighty voxels that are left.
-/
module

public import proofs.«01_k».proof.Proof.Round
public import proofs.«01_k».proof.Proof.Hold

@[expose] public section

noncomputable section

namespace Cert.Proof.K

open Cert.KernelIdeal Cert.KernelIdeal.Gen Cert.Vote

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono)
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)
variable {O : CellTallies nD τ sig (HIx 1)} {W : Waits sig (HIx 1)}

theorem freeOut_add (i : ℕ) : (freeOut d L (i + 2) : sProp 𝕄) = freeOut d L i := by
  simp only [freeOut, outSem, Nat.add_mod_right]

/-- All the blocks of the worker are done after its last round. -/
theorem done_all : doneSet (wid L) (rounds L) = todoSet (wid L) 0 := by
  have hw := wid_lt L
  unfold doneSet todoSet
  refine Finset.filter_congr fun i _ => ?_
  unfold rounds
  generalize (i 0).val = n
  constructor
  · rintro ⟨h, h', -⟩; exact ⟨h, h', Nat.zero_le _⟩
  · rintro ⟨h, h', -⟩; exact ⟨h, h', by omega⟩

/-- What the task is left with after its last two write-outs. -/
def After (O : CellTallies nD τ sig (HIx 1)) (W : Waits sig (HIx 1)) : sProp 𝕄 :=
  iprop(vShare m d ∗ (freeIn d L 0 ∗ freeIn d L 1 ∗ freeIn d L 2 ∗ freeIn d L 3) ∗ (freeOut d L 0 ∗ freeOut d L 1)
    ∗ (oLoc d ↦[todoSet (wid L) 0]{fullShare} res m d) ∗ owesBox d L O W)

/-- The waits for the last two write-outs. -/
theorem drain {sp sp' sp₂ sp₂' : Space} {s s' s₂ s₂' : Shape} {e e' e₂ e₂' : EltTy}
    {srcw : Memref sig (thr d L).2.kind sp' s' e'} {dstw : Memref sig .scVector sp s e} {hsrc : srcw.view.WordExact} {hdst : dstw.view.WordExact}
    {srcw₂ : Memref sig (thr d L).2.kind sp₂' s₂' e₂'} {dstw₂ : Memref sig .scVector sp₂ s₂ e₂} {hsrc₂ : srcw₂.view.WordExact} {hdst₂ : dstw₂.view.WordExact}
    {k : PUnit → Prog (TpuEff nD τ sig (Elt F) Λ₀ (thr d L).2) PUnit} {Q : PUnit → sProp 𝕄}
    (hN : dstw.view.dmaCredit = NO) (hN₂ : dstw₂.view.dmaCredit = NO) (hO : ∀ g, O g none = 0) :
    Core m d L O W (rounds L)
      ⊢ iprop((After m d L O W -∗ wp frame (wpE (defs₀ (F := F)) 𝒱₀ (thr d L) none) Set.univ (k ⟨⟩) Q)
        -∗ wp frame (wpE (defs₀ (F := F)) 𝒱₀ (thr d L) none) Set.univ
          (.op (.waitDma2 cc0_scratch7.sem srcw dstw hsrc hdst) fun _ => .op (.waitDma2 cc0_scratch8.sem srcw₂ dstw₂ hsrc₂ hdst₂) k) Q) := by
  have hd := done_all L
  have hge : ∀ j, rounds L ≤ j → ¬ 32 * j + wid L < 390 := fun j h h' => absurd ((lt_rounds L).2 h') (by omega)
  have hlt : ∀ j, j < rounds L → 32 * j + wid L < 390 := fun j h => (lt_rounds L).1 h
  have hf : ∀ j, (freeIn d L (j + 12) : sProp 𝕄) = freeIn d L j := fun j =>
    (freeIn_add d L (j + 8)).trans ((freeIn_add d L (j + 4)).trans (freeIn_add d L j))
  have hg : ∀ j, (freeOut d L (j + 12) : sProp 𝕄) = freeOut d L j := fun j => by
    simp only [freeOut, outSem, show (j + 12) % 2 = j % 2 by omega]
  unfold Core
  rw [stIn_free m d L (hge _ (le_refl _)), stIn_free m d L (hge _ (by omega)), stIn_free m d L (hge _ (by omega))]
  iintro ⟨#Hlv, Hv, Hi0, Hi1, Hi2, Hi3, Ho0, Ho1, Hd, -, HO⟩ Hk
  have hn : rounds L = 12 ∨ rounds L = 13 := by have := rounds_le L; omega
  rcases hn with hn | hn
  · rw [hn] at hd hlt ⊢
    iapply (wait_row m d L (i := 12) (outSem_0 rfl) (by omega) hN hO) $$ [Ho0 HO]
    · isplitr; · iexact Hlv
      isplitl [Ho0] <;> iassumption
    iintro ⟨Hb, Hf, HO⟩
    iapply (wait_row m d L (i := 13) (outSem_1 rfl) (by omega) hN₂ hO) $$ [Ho1 HO]
    · isplitr; · iexact Hlv
      isplitl [Ho1] <;> iassumption
    iintro ⟨Hb', Hf', HO⟩
    ihave Hd' := (done_put d L (j := 10) (hlt 10 (by omega))) $$ [Hd Hb]
    · isplitl [Hd] <;> iassumption
    ihave Hd := (done_put d L (j := 11) (hlt 11 (by omega))) $$ [Hd' Hb']
    · isplitl [Hd'] <;> iassumption
    iapply Hk
    unfold After
    rw [← hd]
    isplitl [Hv]; · iexact Hv
    isplitl [Hi0 Hi1 Hi2 Hi3]
    · rw [← hf 0, ← hf 1, ← hf 2, ← hf 3]
      isplitl [Hi0]; · iexact Hi0
      isplitl [Hi1]; · iexact Hi1
      isplitl [Hi2]; · iexact Hi2
      iexact Hi3
    isplitl [Hf Hf']
    · rw [← hg 0, ← hg 1]
      isplitl [Hf]; · iexact Hf
      iexact Hf'
    isplitl [Hd]; · iexact Hd
    iexact HO
  · rw [hn] at hd hlt ⊢
    iapply (wait_row m d L (i := 14) (outSem_0 rfl) (by omega) hN hO) $$ [Ho1 HO]
    · isplitr; · iexact Hlv
      isplitl [Ho1] <;> iassumption
    iintro ⟨Hb', Hf', HO⟩
    iapply (wait_row m d L (i := 13) (outSem_1 rfl) (by omega) hN₂ hO) $$ [Ho0 HO]
    · isplitr; · iexact Hlv
      isplitl [Ho0] <;> iassumption
    iintro ⟨Hb, Hf, HO⟩
    ihave Hd' := (done_put d L (j := 11) (hlt 11 (by omega))) $$ [Hd Hb]
    · isplitl [Hd] <;> iassumption
    ihave Hd := (done_put d L (j := 12) (hlt 12 (by omega))) $$ [Hd' Hb']
    · isplitl [Hd'] <;> iassumption
    iapply Hk
    unfold After
    rw [← hd]
    isplitl [Hv]; · iexact Hv
    isplitl [Hi0 Hi1 Hi2 Hi3]
    · rw [← hf 0, ← hf 1, ← hf 2, ← hf 3, ← freeIn_add d L (0 + 12)]
      isplitl [Hi3]; · iexact Hi3
      isplitl [Hi0]; · iexact Hi0
      isplitl [Hi1]; · iexact Hi1
      iexact Hi2
    isplitl [Hf Hf']
    · rw [← hg 0, ← hg 1, ← freeOut_add d L (0 + 12)]
      isplitl [Hf']; · iexact Hf'
      iexact Hf
    isplitl [Hd]; · iexact Hd
    iexact HO

/-! ## The eighty voxels that are left -/

theorem own_sub : todoSet (wid L) 0 ⊆ ownSet (wid L) := by
  intro i
  simp only [todoSet, ownSet, owner, Finset.mem_filter, Finset.mem_univ, true_and]
  rintro ⟨h, h', -⟩
  rw [if_pos h, h']

theorem own_rest (h : wid L = 31) : ownSet (wid L) \ todoSet (wid L) 0 = spanSet 49920 80 := by
  ext i
  have hi : (i 0).val < 50000 := (i 0).isLt
  simp only [todoSet, ownSet, owner, spanSet, h, Finset.mem_sdiff, Finset.mem_filter, Finset.mem_univ, true_and]
  generalize (i 0).val = n at *
  split <;> omega

theorem own_none (h : wid L ≠ 31) : ownSet (wid L) \ todoSet (wid L) 0 = ∅ := by
  have hw := wid_lt L
  ext i
  simp only [todoSet, ownSet, owner, Finset.mem_sdiff, Finset.mem_filter, Finset.mem_univ, true_and, Finset.notMem_empty, iff_false]
  generalize (i 0).val = n
  split <;> omega

theorem mid_src_read {f : Buf (Elt F) (midLoc d L)} {w : S35x80.Idx → Elt F .f32} (p : Fin 35) (c : Fin 80) :
    (midV.view.write (Elt F) f w Finset.univ) (ix2 p c) = w (ix2 p c) :=
  congrFun (View.write_whole_univ (cc0_scratch1 : Ref sig .scVector) _ _) _

/-- Start the fetch of the last eighty voxels. -/
theorem start_mid {sem : DmaSem sig} {inb : ∀ a, (![0, 7, 49920] : Fin 3 → ℕ) a + S35x1x80.size a ≤ S35x8x50000.size a}
    {hsrc hdst hsem} {k : PUnit → Prog (TpuEff nD τ sig (Elt F) Λ₀ (thr d L).2) PUnit} {Q : PUnit → sProp 𝕄} :
    iprop(vShare m d ∗ semVal (thr d L, .dma sem) 0 ∗ ∃ f, midLoc d L ↦{fullShare} f)
      ⊢ iprop((iprop(vShare m d ∗ Flight countersEmb (thr d L) (.dma sem) none NM (midHolds m d L))
            -∗ wp frame (wpE (defs₀ (F := F)) 𝒱₀ (thr d L) none) Set.univ (k ⟨⟩) Q)
          -∗ wp frame (wpE (defs₀ (F := F)) 𝒱₀ (thr d L) none) Set.univ
            (.op (.enqueueDma ((vV.slice (Rect.unit (s := S35x8x50000) ![0, 7, 49920] S35x1x80.size inb) (fun _ => rfl)).squeeze S35x80 squeezes_S35x1x80_S35x80)
              (.here midV) (.dma sem) hsrc hdst hsem) k) Q) := by
  iintro ⟨Hv, Hs, %f, Hd⟩ Hk
  ihave H := (vShare_split m d L ((vV.slice (Rect.unit (s := S35x8x50000) ![0, 7, 49920] S35x1x80.size inb) (fun _ => rfl)).squeeze S35x80 squeezes_S35x1x80_S35x80).view.set) $$ Hv
  icases H with ⟨Hv, %q, Hsrc⟩
  iapply (Transfers.wp_dmaLocal countersEmb 𝒱₀ (thr d L) none (src := (vV.slice (Rect.unit (s := S35x8x50000) ![0, 7, 49920] S35x1x80.size inb) (fun _ => rfl)).squeeze S35x80 squeezes_S35x1x80_S35x80)
      (dst := midV) (fs := tv m d) (fd := f) (Sd := Finset.univ)
      (none : HIx 1) NM rfl NM_pos (Finset.subset_univ _)) $$ [Hsrc Hd Hs]
  · isplitl [Hsrc]; · iexact Hsrc
    isplitl [Hd]; · iexact Hd
    iexact Hs
  iintro HF
  iapply Hk
  isplitl [Hv]; · iexact Hv
  iapply (Flight_mono countersEmb (thr d L) ?hm) $$ HF
  case hm =>
    unfold midHolds
    iintro ⟨H, -⟩
    iexists _
    isplitr
    rotate_left
    · iexact H
    ipureintro
    intro p c
    refine (mid_src_read d L p c).trans ?_
    exact src_read (tv m d) ![0, 7, 49920] inb rfl squeezes_S35x1x80_S35x80 p c _

end Cert.Proof.K

end
-- ==== Proof.Body.lean ====
/-
  The whole task of a vector subcore: three fetches started, thirteen rounds, the last two write-outs waited for, and on
  the last worker the eighty voxels that are left.
-/
module

public import proofs.«01_k».proof.Proof.Drain

@[expose] public section

noncomputable section

namespace Cert.Proof.K

open Cert.KernelIdeal Cert.KernelIdeal.Gen Cert.Vote

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono)
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)
set_option maxRecDepth 65536 in
set_option maxHeartbeats 4000000 in
/-- The task: from a share of the transposed copy and its voxels at the launch contents to its voxels at their classes,
    its own memory and semaphores handed back. -/
theorem tile_body (hF : (K (F := F)).Facts) (O : CellTallies nD τ sig (HIx 1)) (W : Waits sig (HIx 1)) (hO : ∀ g, O g none = 0) :
    iprop(levAts (K (F := F)).L (K (F := F)).lev ∗ emp ∗ (vShare m d ∗ oLoc d ↦[ownSet (wid L)]{fullShare} m (oLoc d))
        ∗ scopedBufs (thr d L) ∗ scopedSems0 (thr d L) ∗ owes (thr d L) O W)
      ⊢ wp frame (wpE (defs₀ (F := F)) 𝒱₀ (thr d L) none) Set.univ
          (cc0__sc_body L vV (Memref.isWhole_whole _) oV (Memref.isWhole_whole _) inV (Memref.isWhole_whole _) midV (Memref.isWhole_whole _) outV (Memref.isWhole_whole _)
            cc0_scratch3 cc0_scratch4 cc0_scratch5 cc0_scratch6 cc0_scratch7 cc0_scratch8 cc0_scoped0 cc0_scoped1)
          fun _ => iprop((oLoc d ↦[ownSet (wid L)]{fullShare} res m d) ∗ scopedBufs (thr d L) ∗ scopedSems0 (thr d L)
            ∗ ∃ W', ⌜∀ p ∈ W', p ∈ W ∨ p.2 = none⌝ ∗ owes (thr d L) O W') := by
  simp only [cc0__sc_body_eq_skeleton]
  unfold cc0__sc_body_skel
  simp only [k0_part20_eq_skeleton, k0_part21_eq_skeleton]
  unfold k0_part20_skel k0_part21_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_V, ownBufs_V]
  have hb : ∀ j, j < 3 → 32 * j + wid L < 390 := fun j h => by have := wid_lt L; omega
  have hoff : ∀ r : Fin 3, k0_off1 L (BitVec.ofNat 32 (32 * r.val)) = ![0, 7, first L r.val] := fun r => by
    rw [k0_off1_eq, first, ← blk_eq L r.val]
  iintro ⟨#Hlv, -, ⟨Hv, Ho⟩, ⟨Hin, Hmid, Hout, Hbufs⟩, ⟨⟨Hs3, Hs4, Hs5, Hs6, Hs7, Hs8, Hc0, Hc1⟩, Hcells⟩, HO⟩
  ihave Hin' := (in_slots d L).1 $$ Hin
  icases Hin' with ⟨Hi0, Hi1, Hi2, Hi3⟩
  ihave Hout' := (out_rows d L).1 $$ Hout
  icases Hout' with ⟨Hr0, Hr8, Hrest⟩
  ihave Ho' := (pointsTo_split_subset (own_sub L)).1 $$ Ho
  icases Ho' with ⟨Ht, Htail⟩
  iapply (start_free m d L (j := 0) (s := 0) rfl (inSem_0 rfl) rfl (hoff 0) (hb 0 (by omega))) $$ [Hv Hs3 Hi0]
  · isplitl [Hv]; · iexact Hv
    unfold freeIn
    isplitl [Hs3]; · iexact Hs3
    iexact Hi0
  iintro ⟨Hv, Hi0⟩
  iapply (start_free m d L (j := 1) (s := 1) rfl (inSem_1 rfl) rfl (hoff 1) (hb 1 (by omega))) $$ [Hv Hs4 Hi1]
  · isplitl [Hv]; · iexact Hv
    unfold freeIn
    isplitl [Hs4]; · iexact Hs4
    iexact Hi1
  iintro ⟨Hv, Hi1⟩
  iapply (start_free m d L (j := 2) (s := 2) rfl (inSem_2 rfl) rfl (hoff 2) (hb 2 (by omega))) $$ [Hv Hs5 Hi2]
  · isplitl [Hv]; · iexact Hv
    unfold freeIn
    isplitl [Hs5]; · iexact Hs5
    iexact Hi2
  iintro ⟨Hv, Hi2⟩
  iapply (loop_bind d L k0_t1_loop _ _ (fun k => Core m d L O W (min k (rounds L))) ?rounds) $$ [Hv Hi0 Hi1 Hi2 Hs6 Hi3 Hs7 Hr0 Hs8 Hr8 Ht HO]
  case rounds =>
    intro k
    exact round_body m d L k _ hO
  · rw [Nat.zero_min]
    unfold Core
    isplitr; · iexact Hlv
    isplitl [Hv]; · iexact Hv
    isplitl [Hi0]; · iexact Hi0
    isplitl [Hi1]; · iexact Hi1
    isplitl [Hi2]; · iexact Hi2
    isplitl [Hs6 Hi3]
    · unfold freeIn
      isplitl [Hs6]; · iexact Hs6
      iexact Hi3
    isplitl [Hs7 Hr0]
    · rw [stOut_free m d L (by omega)]
      unfold freeOut
      isplitl [Hs7]; · iexact Hs7
      iexact Hr0
    isplitl [Hs8 Hr8]
    · rw [stOut_free m d L (by omega)]
      unfold freeOut
      isplitl [Hs8]; · iexact Hs8
      iexact Hr8
    isplitr
    · rw [Nat.zero_sub, done_zero, pointsTo_empty]; iempintro
    isplitl [Ht]; · iexact Ht
    unfold owesBox
    iexists W
    isplitr
    · ipureintro; exact fun p hp => .inl hp
    iexact HO
  iintro HC
  ihave HC' := (Entails.of_eq (show Core m d L O W (min k0_t1_loop.trips (rounds L)) = Core m d L O W (rounds L) by
    rw [trips1, min_eq_right (rounds_le L).1])) $$ HC
  iapply (drain m d L rfl rfl hO) $$ HC'
  unfold After
  iintro ⟨Hv, ⟨Hi0, Hi1, Hi2, Hi3⟩, ⟨Ho0, Ho1⟩, Hd, HO⟩
  unfold freeIn freeOut
  icases Hi0 with ⟨Hs3, Hi0⟩
  icases Hi1 with ⟨Hs4, Hi1⟩
  icases Hi2 with ⟨Hs5, Hi2⟩
  icases Hi3 with ⟨Hs6, Hi3⟩
  icases Ho0 with ⟨Hs7, Hr0⟩
  icases Ho1 with ⟨Hs8, Hr8⟩
  -- the voxels that are left
  iapply (step_to d L (A := iprop(vShare m d ∗ levAts (K (F := F)).L (K (F := F)).lev ∗ semVal (cell d L cc0_scoped0.sem) 0 ∗ semVal (cell d L cc0_scoped1.sem) 0
      ∗ (∃ f, midLoc d L ↦{fullShare} f) ∗ rowAny d L 0 ∗ (oLoc d ↦[ownSet (wid L) \ todoSet (wid L) 0]{fullShare} m (oLoc d)) ∗ owesBox d L O W))
    (B := iprop(semVal (cell d L cc0_scoped0.sem) 0 ∗ semVal (cell d L cc0_scoped1.sem) 0
      ∗ (∃ f, midLoc d L ↦{fullShare} f) ∗ rowAny d L 0 ∗ (oLoc d ↦[ownSet (wid L) \ todoSet (wid L) 0]{fullShare} res m d) ∗ owesBox d L O W))
    (J := Prog.ret ⟨⟩) ?tail) $$ [Hv Hc0 Hc1 Hmid Hr0 Htail HO]
  case tail =>
    by_cases h16 : k0_cond16 L = 1#1
    swap
    · have hw : wid L ≠ 31 := mt (cond16_iff L).2 h16
      rw [dif_neg h16, own_none L hw, pointsTo_empty, pointsTo_empty]
      iintro ⟨-, -, H⟩ Hk
      iapply Hk; iexact H
    have hw : wid L = 31 := (cond16_iff L).1 h16
    rw [dif_pos h16, own_rest L hw]
    iintro ⟨Hv, #Hlv, Hc0, Hc1, Hmid, Hr0, Ho, HO⟩ Hk
    iapply (start_mid m d L) $$ [Hv Hc0 Hmid]
    · isplitl [Hv]; · iexact Hv
      isplitl [Hc0] <;> iassumption
    iintro ⟨-, HF⟩
    iapply (wait_on d L (N := NM) rfl hO) $$ [HF HO]
    · isplitr; · iexact Hlv
      isplitl [HF] <;> iassumption
    iintro ⟨Hmid, Hc0, HO⟩
    iapply (loop_bind d L k0_t3_loop _ _ (fun k₃ => iprop(midHolds m d L ∗ rowHolds m d L 0 49920 (16 * k₃))) ?groups) $$ [Hmid Hr0]
    case groups =>
      intro k₃
      exact tail_body m d L k₃ h16
    · isplitl [Hmid]; · iexact Hmid
      iapply (rowAny_holds m d L _ _); iexact Hr0
    iintro ⟨Hmid, Hr0⟩
    ihave Hr0' := (Entails.of_eq (show rowHolds m d L 0 49920 (16 * k0_t3_loop.trips) = rowHolds m d L 0 49920 80 by rw [trips3])) $$ Hr0
    iapply (start_out m d L (n := 80) (N := NT) rfl rfl (by omega) (by omega) (by omega) rfl NT_pos) $$ [Hr0' Hc1 Ho]
    · isplitl [Hr0']; · iexact Hr0'
      isplitl [Hc1]; · iexact Hc1
      iexact Ho
    iintro ⟨HF, Hr⟩
    iapply (wait_on d L (N := NT) rfl hO) $$ [HF HO]
    · isplitr; · iexact Hlv
      isplitl [HF] <;> iassumption
    iintro ⟨⟨Ho, Hp⟩, Hc1, HO⟩
    iapply Hk
    isplitl [Hc0]; · iexact Hc0
    isplitl [Hc1]; · iexact Hc1
    isplitl [Hmid]
    · unfold midHolds
      icases Hmid with ⟨%f, -, H⟩
      iexists f; iexact H
    isplitl [Hr Hp]
    · iapply (part_rest d L 0 80)
      isplitl [Hp] <;> iassumption
    isplitl [Ho]; · iexact Ho
    iexact HO
  · isplitl [Hv]; · iexact Hv
    isplitr; · iexact Hlv
    isplitl [Hc0]; · iexact Hc0
    isplitl [Hc1]; · iexact Hc1
    isplitl [Hmid]; · iexact Hmid
    isplitl [Hr0]; · iexact Hr0
    isplitl [Htail]; · iexact Htail
    iexact HO
  iintro ⟨Hc0, Hc1, Hmid, Hr0, Htail, HO⟩
  rw [wp_ret]
  imodintro
  isplitl [Hd Htail]
  · iapply (pointsTo_split_subset (own_sub L)).2
    isplitl [Hd]; · iexact Hd
    iexact Htail
  isplitl [Hi0 Hi1 Hi2 Hi3 Hmid Hr0 Hr8 Hrest Hbufs]
  · isplitl [Hi0 Hi1 Hi2 Hi3]
    · iapply (in_slots d L).2
      isplitl [Hi0]; · iexact Hi0
      isplitl [Hi1]; · iexact Hi1
      isplitl [Hi2]; · iexact Hi2
      iexact Hi3
    isplitl [Hmid]; · iexact Hmid
    isplitl [Hr0 Hr8 Hrest]
    · iapply (out_rows d L).2
      isplitl [Hr0]; · iexact Hr0
      isplitl [Hr8]; · iexact Hr8
      iexact Hrest
    iexact Hbufs
  isplitl [Hs3 Hs4 Hs5 Hs6 Hs7 Hs8 Hc0 Hc1 Hcells]
  · isplitr [Hcells]
    · isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hc0]; · iexact Hc0
      iexact Hc1
    iexact Hcells
  unfold owesBox
  iexact HO

end Cert.Proof.K

end
-- ==== Proof.Launch.lean ====
/-
  The launch: the task is what the launch theorem asks of a vector subcore, the arrays go out to the thirty-two tasks and
  come back, the host transposes before the call and reshapes after it; and the run of the whole program, over any float
  reading.
-/
module

public import proofs.«01_k».proof.Proof.Body

@[expose] public section

noncomputable section

namespace Cert.Proof.K

open Cert.KernelIdeal Cert.KernelIdeal.Gen Cert.Vote

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono)
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The task as the launch theorem asks -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          vV (Memref.isWhole_whole _) oV (Memref.isWhole_whole _) inV (Memref.isWhole_whole _) midV (Memref.isWhole_whole _) outV (Memref.isWhole_whole _)
          cc0_scratch3 cc0_scratch4 cc0_scratch5 cc0_scratch6 cc0_scratch7 cc0_scratch8 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-! ## The arrays among the tasks -/

omit [FloatOps F] in
/-- One share of the transposed copy is enough for any number of holders. -/
theorem vShares {I : Type} [DecidableEq I] (d : Dev nD) (s : Finset I) :
    vShare m d ⊢ (bigSep s fun _ => vShare m d : sProp 𝕄) := by
  induction s using Finset.induction_on with
  | empty => rw [bigSep_empty]; iintro -; iempintro
  | insert a s ha ih =>
    rw [SparseCore.bigSep_insert' ha]
    have h : vShare m d ⊢ (iprop(vShare m d ∗ vShare m d) : sProp 𝕄) := by
      unfold vShare
      iintro ⟨%q, H⟩
      ihave H' := (pointsTo_share (PosShare.mem_left_op_right q)).1 $$ H
      icases H' with ⟨Hl, Hr⟩
      isplitl [Hl] <;> iexists _ <;> iassumption
    iintro H
    ihave H' := h $$ H
    icases H' with ⟨H1, H2⟩
    isplitl [H1]; · iexact H1
    iapply ih; iexact H2

/-- A SparseCore's voxels are its sixteen workers', -/
theorem core_eq (c : ℕ) (hc : c < 2) : coreSet c = (Finset.univ : Finset (Fin 16)).biUnion fun i => ownSet (wNo c i.val) := by
  ext x
  simp only [coreSet, ownSet, Finset.mem_biUnion, Finset.mem_filter, Finset.mem_univ, true_and]
  have ho : owner (x 0).val < 32 := by unfold owner; split <;> omega
  unfold wNo
  constructor
  · intro h; exact ⟨⟨owner (x 0).val / 2, by omega⟩, by show _ = 2 * (owner (x 0).val / 2) + c; omega⟩
  · rintro ⟨i, h⟩; omega

/-- no voxel being two workers'. -/
theorem own_disjoint (c : ℕ) : ∀ i ∈ (Finset.univ : Finset (Fin 16)), ∀ j ∈ (Finset.univ : Finset (Fin 16)), i ≠ j →
    Disjoint (ownSet (wNo c i.val)) (ownSet (wNo c j.val)) := by
  intro i _ j _ h
  have h' : i.val ≠ j.val := fun e => h (Fin.ext e)
  rw [Finset.disjoint_left]
  intro x h1 h2
  have h3 := (Finset.mem_filter.1 h1).2.symm.trans (Finset.mem_filter.1 h2).2
  unfold wNo at h3
  omega

omit [FloatOps F] in
theorem oPts_core (d : Dev nD) (c : ℕ) (hc : c < 2) (f : Buf (Elt F) (oLoc d)) :
    (oLoc d ↦[coreSet c]{fullShare} f : sProp 𝕄) = bigSep Finset.univ fun i : Fin 16 => oLoc d ↦[ownSet (wNo c i.val)]{fullShare} f := by
  rw [core_eq c hc, pointsTo_biUnion Finset.univ (ℓ := oLoc d) (fun i : Fin 16 => ownSet (wNo c i.val)) (own_disjoint c)]

omit [FloatOps F] in
theorem oPts_cores (d : Dev nD) (f : Buf (Elt F) (oLoc d)) :
    (oLoc d ↦{fullShare} f : sProp 𝕄) = iprop((oLoc d ↦[coreSet 0]{fullShare} f) ∗ oLoc d ↦[coreSet 1]{fullShare} f) := by
  have hd : Disjoint (coreSet 0) (coreSet 1) := by
    rw [Finset.disjoint_left]; intro x
    simp only [coreSet, Finset.mem_filter, Finset.mem_univ, true_and]; omega
  have hu : coreSet 0 ∪ coreSet 1 = Finset.univ := by
    ext x
    simp only [coreSet, Finset.mem_union, Finset.mem_filter, Finset.mem_univ, true_and, iff_true]; omega
  rw [← BI.Entails.antisymm (pointsTo_union (ℓ := oLoc d) (f := f) (q := fullShare) hd).1 (pointsTo_union hd).2, hu]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's operands go out to its sixteen tasks, and its voxels come back. -/
theorem vecSplit : (K (F := F)).VecSplit' (P m) 0 := by
  intro d c
  show iprop(vShare m d ∗ oLoc d ↦[coreSet c.val]{fullShare} m (oLoc d)) ⊢ |={Set.univ}=> iprop(
      (bigSep Finset.univ fun i : Fin ((K (F := F)).nSub 0) => iprop(vShare m d ∗ oLoc d ↦[ownSet (wNo c.val (Fin.cast nSub_zero i).val)]{fullShare} m (oLoc d)))
      ∗ ((bigSep Finset.univ fun i : Fin ((K (F := F)).nSub 0) => iprop(oLoc d ↦[ownSet (wNo c.val (Fin.cast nSub_zero i).val)]{fullShare} res m d))
          -∗ iprop(oLoc d ↦[coreSet c.val]{fullShare} res m d)))
  rw [bigSep_tasks (F := F) (fun i => iprop(vShare m d ∗ oLoc d ↦[ownSet (wNo c.val i.val)]{fullShare} m (oLoc d))),
    bigSep_tasks (F := F) (fun i => iprop(oLoc d ↦[ownSet (wNo c.val i.val)]{fullShare} res m d)), bigSep_sep',
    oPts_core d c.val c.isLt, oPts_core d c.val c.isLt]
  iintro ⟨Hv, Ho⟩; imodintro
  isplitl [Hv Ho]
  · isplitl [Hv]
    · iapply (vShares m d); iexact Hv
    iexact Ho
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev v' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opT : HloOp τ sig (Elt F) :=
  StableHlo.unary main_arg0 main_v0 ((transpose S35x8x50000 [1, 2, 0] · transposes_S50000x35x8_S35x8x50000_1_2_0) : (⟨S50000x35x8, .f32⟩ : BufTy).Contents (Elt F) → (⟨S35x8x50000, .f32⟩ : BufTy).Contents (Elt F))
abbrev opR : HloOp τ sig (Elt F) := StableHlo.reshape main_v1 main_v2 (rfl : (.i32 : EltTy) = .i32) shapeCasts_S50000_S50000x1

/-- The TensorCore's arrays: the features, their transposed copy, the classes, the classes as a column. -/
abbrev S4 : Finset (DevRef τ sig) := {x', v', o', r'}

omit [FloatOps F] in
theorem held_S4 (d : Dev nD) (W : Valuation τ sig (Elt F)) :
    (held (T d) S4 W : sProp 𝕄) = iprop((xLoc d ↦{fullShare} W x') ∗ (vLoc d ↦{fullShare} W v') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

/-- What is left of them for the reshape: the call keeps the transposed copy. -/
abbrev S3 : Finset (DevRef τ sig) := {x', o', r'}

omit [FloatOps F] in
theorem held_S3 (d : Dev nD) (W : Valuation τ sig (Elt F)) :
    (held (T d) S3 W : sProp 𝕄) = iprop((xLoc d ↦{fullShare} W x') ∗ (oLoc d ↦{fullShare} W o') ∗ rLoc d ↦{fullShare} W r') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (vLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation, and the one after the call. -/
def V0 (d : Dev nD) : Valuation τ sig (Elt F) := fun b => m (d, b)
def V1 (d : Dev nD) : Valuation τ sig (Elt F) := Function.update ((opT (F := F)).result (V0 m d)) o' (res m d)

omit [FloatOps F] in
theorem unscoped_held (d : Dev nD) : (unscopedBufs d (fun b => m ((SparseCore.T d).loc b)) : sProp 𝕄) = held (T d) S4 (V0 m d) := by
  rw [unscopedBufs_eq, held_S4]; rfl

/-- The classes as a column. -/
def col (d : Dev nD) : Buf (Elt F) (rLoc d) := fun i => (shapeCast S50000x1 (res m d) shapeCasts_S50000_S50000x1 : S50000x1.Idx → BitVec 32) i

omit [FloatOps F] in
theorem T_x (d : Dev nD) : (opT (F := F)).result (V0 m d) x' = m (xLoc d) :=
  StableHlo.unary_result_ne (r := main_arg0) main_arg0 main_v0 _ _ _ _ (by decide)
omit [FloatOps F] in
theorem T_o (d : Dev nD) : (opT (F := F)).result (V0 m d) o' = m (oLoc d) :=
  StableHlo.unary_result_ne (r := main_v1) main_arg0 main_v0 _ _ _ _ (by decide)
omit [FloatOps F] in
theorem T_v (d : Dev nD) : (opT (F := F)).result (V0 m d) v' = tv m d :=
  StableHlo.unary_result main_arg0 main_v0 _ _ _ _

theorem V1_o (d : Dev nD) : V1 m d o' = res m d := Function.update_self _ _ _
theorem V1_x (d : Dev nD) : V1 m d x' = m (xLoc d) := (Function.update_of_ne (show x' ≠ o' by decide) _ _).trans (T_x m d)
theorem V1_r (d : Dev nD) : V1 m d r' = (opT (F := F)).result (V0 m d) r' := Function.update_of_ne (show r' ≠ o' by decide) _ _
theorem R_x (d : Dev nD) : (opR (F := F)).result (V1 m d) x' = m (xLoc d) :=
  (StableHlo.reshape_result_ne (r := main_arg0) main_v1 main_v2 _ _ _ _ _ (by decide)).trans (V1_x m d)
theorem R_r (d : Dev nD) : (opR (F := F)).result (V1 m d) r' = col m d := by
  refine (StableHlo.reshape_result main_v1 main_v2 _ _ _ _ _).trans ?_
  show (fun i => shapeCast S50000x1 (V1 m d o') shapeCasts_S50000_S50000x1 i) = _
  rw [V1_o]; rfl

/-- What the call takes for the two SparseCores, and what it hands back. -/
theorem st0_eq (d : Dev nD) : (bigSep Finset.univ fun c : Fin ((K (F := F)).nCore 0) => (P m).st 0 d c)
    = iprop((vShare m d ∗ oLoc d ↦[coreSet 0]{fullShare} m (oLoc d)) ∗ vShare m d ∗ oLoc d ↦[coreSet 1]{fullShare} m (oLoc d)) := by
  show (bigSep (Finset.univ : Finset (Fin 2)) fun c => iprop(vShare m d ∗ oLoc d ↦[coreSet c.val]{fullShare} m (oLoc d))) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m).dn 0 d c)
    = (oLoc d ↦{fullShare} res m d : sProp 𝕄) := by
  show (bigSep (Finset.univ : Finset (Fin 2)) fun c => iprop(oLoc d ↦[coreSet c.val]{fullShare} res m d)) = _
  rw [show (Finset.univ : Finset (Fin 2)) = {0, 1} by decide, SparseCore.bigSep_insert' (by decide), bigSep_singleton, oPts_cores]
  rfl

theorem hT : (opT (F := F)).bufs ⊆ S4 := show ({x', v'} : Finset (DevRef τ sig)) ⊆ S4 by decide
theorem hR : (opR (F := F)).bufs ⊆ S3 := show ({o', r'} : Finset (DevRef τ sig)) ⊆ S3 by decide

/-- What @main leaves the claim: the features at their launch contents, the result column at the classes. -/
abbrev FIN (d : Dev nD) : sProp 𝕄 := iprop((xLoc d ↦{fullShare} m (xLoc d)) ∗ rLoc d ↦{fullShare} col m d)

/-- @main on device `d`'s TensorCore: the transposition, the call, the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the transposition
  iapply (wp_hlo_within 𝒱 (SparseCore.T d) none Set.univ (op := opT) (S := S4) hT (V := V0 m d)) $$ [Hb Hheld]
  · isplitl [Hb] <;> iassumption
  iintro ⟨Hb, Hheld⟩
  rw [wp_ret]; imodintro
  ihave Hh := (Entails.of_eq (held_S4 (F := F) d _)) $$ Hheld
  rw [T_x, T_v, T_o]
  icases Hh with ⟨Hx, Hv, Ho, Hr⟩
  ihave Hv := (show (vLoc d ↦{fullShare} tv m d : sProp 𝕄) ⊢ vShare m d by unfold vShare; iintro H; iexists _; iexact H) $$ Hv
  ihave Hv' := (vShares m d (Finset.univ : Finset (Fin 2))) $$ Hv
  ihave Hv := (Entails.of_eq (show (bigSep (Finset.univ : Finset (Fin 2)) fun _ => vShare m d : sProp 𝕄) = iprop(vShare m d ∗ vShare m d) by
    rw [show (Finset.univ : Finset (Fin 2)) = {0, 1} by decide, SparseCore.bigSep_insert' (by decide), bigSep_singleton])) $$ Hv'
  icases Hv with ⟨Hv0, Hv1⟩
  ihave Ho' := (Entails.of_eq (oPts_cores (F := F) d _)) $$ Ho
  icases Ho' with ⟨Ho0, Ho1⟩
  -- the call
  iapply ((K (F := F)).wp_run (D (F := F)) 𝒱 (EH := EH) (P := P m) κ d 0) $$ [Hst Hx Hv0 Hv1 Ho0 Ho1 Hb Hr Hts]
  isplitr; · iexact Hctx
  isplitl [Hst]; · iexact Hst
  isplitl [Hv0 Hv1 Ho0 Ho1]
  · rw [st0_eq]
    isplitl [Hv0 Ho0]
    · isplitl [Hv0] <;> iassumption
    · isplitl [Hv1] <;> iassumption
  iintro ⟨Hst, Hdn⟩
  ihave Ho := (Entails.of_eq (dn0_eq m d)) $$ Hdn
  -- the reshape
  iapply (wp_hlo_within 𝒱 (SparseCore.T d) none Set.univ (op := opR) (S := S3) hR (V := V1 m d)) $$ [Hb Hx Ho Hr]
  · isplitl [Hb]; · iexact Hb
    rw [held_S3, V1_x, V1_o, V1_r]
    isplitl [Hx]; · iexact Hx
    isplitl [Ho] <;> iassumption
  iintro ⟨Hb, Hheld⟩
  ihave Hh := (Entails.of_eq (held_S3 (F := F) d _)) $$ Hheld
  rw [R_x, R_r]
  icases Hh with ⟨Hx, -, Hr⟩
  rw [wp_ret]; imodintro; imodintro
  isplitl [Hst]; · iexact Hst
  isplitr [Hb Hts]
  · isplitl [Hx] <;> iassumption
  isplitl [Hb] <;> iassumption

def fq (d : Dev nD) (s' : Phys nD τ sig (Elt F)) : Prop := s'.mem.mem (xLoc d) = m (xLoc d) ∧ s'.mem.mem (rLoc d) = col m d

theorem hfin (d : Dev nD) (s' : Phys nD τ sig (Elt F)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := rLoc d) (I := Finset.univ) (q := fullShare) (f := col m d)) $$ [HSI Hr]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop :=
  fun r => (∀ c : Dev nD, r.2.mem (xLoc c) = m (xLoc c) ∧ r.2.mem (rLoc c) = col m c) ∧ r.2.sem = fun _ => 0

/-- The whole program runs: the features unchanged, the result column at the classes, every counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.K

end
-- ==== Proof.Count.lean ====
/-
  What a vote is: the packed four-bit counters hold the classes' counts, their bytes the counts over all thirty-five
  points, and the largest tagged count names the class of most points, the lowest one of a tie. Class zero's count is
  read as zero, as the kernel reads it.
-/
module

public import proofs.«01_k».proof.Proof.Vote
public import Idealize.ShloMosaic.Lib.PackedFields

@[expose] public section

noncomputable section

namespace Cert.Vote

open Idealize.ShloMosaic Idealize.ShloMosaic.PackedFields

/-- How many of the points listed have class `c`. -/
def among (l : Fin 35 → BitVec 32) (ps : List (Fin 35)) (c : ℕ) : ℕ := ps.countP fun p => (l p).toNat = c

/-- The votes a class gets: the number of its points, none for class zero. -/
def votes (l : Fin 35 → BitVec 32) (c : Fin 8) : ℕ := if c = 0 then 0 else among l (List.finRange 35) c

/-- A class's rank among eight with votes `v`: more votes first, then the lower class. -/
def rank (v : Fin 8 → ℕ) (c : Fin 8) : ℕ := 8 * v c + (7 - c)

/-- A class whose rank is the largest. -/
def Wins (v : Fin 8 → ℕ) (c : Fin 8) : Prop := ∀ b, rank v b ≤ rank v c

/-- Two classes of the same rank are one class. -/
theorem rank_inj {v : Fin 8 → ℕ} {a b : Fin 8} (h : rank v a = rank v b) : a = b := by
  unfold rank at h; have := a.isLt; have := b.isLt; apply Fin.ext; omega

/-- The winner is unique. -/
theorem Wins.unique {v : Fin 8 → ℕ} {a b : Fin 8} (ha : Wins v a) (hb : Wins v b) : a = b :=
  rank_inj (le_antisymm (hb a) (ha b))

/-- Counting one point of a class below eight adds one to that class's four bits, and to no other's. -/
theorem field_tick (a l : BitVec 32) (hl : l.toNat < 8) (ha : ∀ k < 8, field 4 k a.toNat < 15) (i : ℕ) (hi : i < 8) :
    field 4 i (tick a l).toNat = field 4 i a.toNat + if l.toNat = i then 1 else 0 := by
  have h1 : (IntOp.shli .vector l 2#32).toNat = 4 * l.toNat := by
    unfold IntOp.shli
    rw [if_pos (by decide), BitVec.shiftLeft_eq', BitVec.toNat_shiftLeft, show (2#32 : BitVec 32).toNat = 2 from rfl,
      Nat.shiftLeft_eq, Nat.mod_eq_of_lt (by omega), Nat.mul_comm]
  have h2 : (IntOp.shli .vector 1#32 (IntOp.shli .vector l 2#32)).toNat = 1 <<< (4 * l.toNat) := by
    rw [IntOp.shli, if_pos (by rw [h1]; omega), BitVec.shiftLeft_eq', BitVec.toNat_shiftLeft, h1,
      show (1#32 : BitVec 32).toNat = 1 from rfl]
    refine Nat.mod_eq_of_lt ?_
    rw [Nat.one_shiftLeft]
    exact Nat.pow_lt_pow_right (by decide) (by omega)
  have h3 : ∀ k, field 4 k (IntOp.shli .vector 1#32 (IntOp.shli .vector l 2#32)).toNat = if k = l.toNat then 1 else 0 :=
    fun k => by rw [h2, field_one_shiftLeft 4 k _ (by decide)]
  rw [tick, field_addi (n := 8) (by decide) _ _ (fun k hk => by rw [h3]; have := ha k hk; split <;> omega) i hi, h3]
  simp only [eq_comm]

/-- Counting a list of points from an accumulator with room for them adds each class's count to its four bits. -/
theorem field_foldl (l : Fin 35 → BitVec 32) (hl : ∀ p, (l p).toNat < 8) (ps : List (Fin 35)) :
    ∀ a : BitVec 32, (∀ k < 8, field 4 k a.toNat + ps.length < 16) → ∀ i < 8,
      field 4 i (ps.foldl (fun a p => tick a (l p)) a).toNat = field 4 i a.toNat + among l ps i := by
  induction ps with
  | nil => intro a _ i _; simp [among]
  | cons p ps ih =>
    intro a ha i hi
    simp only [List.length_cons] at ha
    have ht := field_tick a (l p) (hl p) (fun k hk => by have := ha k hk; omega)
    rw [List.foldl_cons, ih _ (fun k hk => by rw [ht k hk]; have := ha k hk; split <;> omega) i hi, ht i hi]
    unfold among
    rw [List.countP_cons]
    simp only [decide_eq_true_eq]
    omega

/-- A run of at most fifteen points leaves each class's count in its four bits. -/
theorem field_tally (l : Fin 35 → BitVec 32) (hl : ∀ p, (l p).toNat < 8) (ps : List (Fin 35)) (hps : ps.length ≤ 15)
    (i : ℕ) (hi : i < 8) : field 4 i (tally l ps).toNat = among l ps i := by
  have h0 : ∀ k, field 4 k (0#32 : BitVec 32).toNat = 0 := fun k => by simp [field]
  rw [tally, field_foldl l hl ps 0#32 (fun k _ => by rw [h0]; omega) i hi, h0, Nat.zero_add]

/-- The count over the three runs is the count over all points. -/
theorem among_runs (l : Fin 35 → BitVec 32) (c : ℕ) :
    among l runA c + among l runB c + among l runC c = among l (List.finRange 35) c := by
  unfold among
  rw [← List.countP_append, ← List.countP_append]
  rfl

/-- Under the mask of even fields an arithmetic shift by four is the logical one. -/
theorem down_eq (a : BitVec 32) : down a = IntOp.andi (IntOp.shrui .vector a 4#32) 252645135#32 := by
  unfold down IntOp.andi IntOp.shrsi IntOp.shrui
  rw [if_pos (by decide), if_pos (by decide)]
  apply BitVec.eq_of_getLsbD_eq
  intro i hi
  rw [BitVec.getLsbD_and, BitVec.getLsbD_and]
  by_cases h : i < 28
  · congr 1
    rw [BitVec.sshiftRight', show (4#32 : BitVec 32).toNat = 4 from rfl, BitVec.getLsbD_sshiftRight, BitVec.ushiftRight_eq',
      BitVec.getLsbD_ushiftRight, show (4#32 : BitVec 32).toNat = 4 from rfl]
    simp [show ¬ 32 ≤ i by omega, show 4 + i < 32 by omega]
  · have hm : (252645135#32 : BitVec 32).getLsbD i = false := by
      obtain rfl | rfl | rfl | rfl : i = 28 ∨ i = 29 ∨ i = 30 ∨ i = 31 := by omega
      all_goals decide
    rw [hm, Bool.and_false, Bool.and_false]

/-- A byte of the even word is the sum of the three accumulators' even counts. -/
theorem field_evens (a b c : BitVec 32) (i : ℕ) (hi : i < 4) :
    field 8 i (evens a b c).toNat = field 4 (2 * i) a.toNat + field 4 (2 * i) b.toNat + field 4 (2 * i) c.toNat := by
  have e : ∀ (x : BitVec 32) k, field 8 k (IntOp.andi x 252645135#32).toNat = field 4 (2 * k) x.toNat :=
    fun x k => field_andi_even (w := 4) isEvenMask_4 k x
  have lt : ∀ (x : BitVec 32) k, field 4 k x.toNat < 16 := fun x k => Nat.mod_lt _ (by decide)
  have s : ∀ k < 4, field 8 k (IntOp.addi (IntOp.andi a 252645135#32) (IntOp.andi b 252645135#32)).toNat
      = field 4 (2 * k) a.toNat + field 4 (2 * k) b.toNat := fun k hk => by
    rw [field_addi (n := 4) (by decide) _ _ (fun k _ => by rw [e, e]; have := lt a (2 * k); have := lt b (2 * k); omega) k hk, e, e]
  rw [evens, field_addi (n := 4) (by decide) _ _ (fun k hk => by
    rw [s k hk, e]; have := lt a (2 * k); have := lt b (2 * k); have := lt c (2 * k); omega) i hi, s i hi, e]

/-- A byte of the odd word is the sum of the three accumulators' odd counts. -/
theorem field_odds (a b c : BitVec 32) (i : ℕ) (hi : i < 4) :
    field 8 i (odds a b c).toNat = field 4 (2 * i + 1) a.toNat + field 4 (2 * i + 1) b.toNat + field 4 (2 * i + 1) c.toNat := by
  have e : ∀ (x : BitVec 32) k, field 8 k (down x).toNat = field 4 (2 * k + 1) x.toNat := fun x k => by
    rw [down_eq]; exact field_shrui_andi_odd (u := .vector) (w := 4) isEvenMask_4 (by decide) k x
  have lt : ∀ (x : BitVec 32) k, field 4 k x.toNat < 16 := fun x k => Nat.mod_lt _ (by decide)
  have s : ∀ k < 4, field 8 k (IntOp.addi (down a) (down b)).toNat
      = field 4 (2 * k + 1) a.toNat + field 4 (2 * k + 1) b.toNat := fun k hk => by
    rw [field_addi (n := 4) (by decide) _ _ (fun k _ => by
      rw [e, e]; have := lt a (2 * k + 1); have := lt b (2 * k + 1); omega) k hk, e, e]
  rw [odds, field_addi (n := 4) (by decide) _ _ (fun k hk => by
    rw [s k hk, e]; have := lt a (2 * k + 1); have := lt b (2 * k + 1); have := lt c (2 * k + 1); omega) i hi, s i hi, e]

/-- A byte of a word of small bytes, times eight, plus a tag below eight. -/
theorem rated_toNat (w s t : BitVec 32) (j : ℕ) (hj : j < 4) (hs : s.toNat = 8 * j) (ht : t.toNat < 8)
    (hw : ∀ i < 4, field 8 i w.toNat < 64) : (rated w s t).toNat = 8 * field 8 j w.toNat + t.toNat := by
  have hm : w.msb = false := by
    rw [BitVec.msb_eq_false_iff_two_mul_lt]
    have h3 := hw 3 (by decide)
    rw [field_eq_div] at h3
    have := w.isLt
    omega
  have h1 : (IntOp.andi (IntOp.shrsi .vector w s) 255#32).toNat = field 8 j w.toNat := by
    unfold IntOp.andi IntOp.shrsi
    rw [if_pos (by omega), BitVec.sshiftRight', BitVec.sshiftRight_eq_of_msb_false hm, BitVec.toNat_and, BitVec.toNat_ushiftRight,
      show (255#32 : BitVec 32).toNat = 2 ^ 8 - 1 from rfl, Nat.and_two_pow_sub_one_eq_mod, hs, field]
  have hf := hw j hj
  unfold rated IntOp.addi
  rw [BitVec.toNat_add, IntOp.shli, if_pos (by decide), BitVec.shiftLeft_eq', BitVec.toNat_shiftLeft, h1,
    show (3#32 : BitVec 32).toNat = 3 from rfl, Nat.shiftLeft_eq]
  omega

/-- The signed maximum of two words below `2 ^ 31` is the larger number. -/
theorem maxsi_toNat (x y : BitVec 32) (hx : x.toNat < 2 ^ 31) (hy : y.toNat < 2 ^ 31) :
    (IntOp.maxsi x y).toNat = max x.toNat y.toNat := by
  unfold IntOp.maxsi
  have ex := BitVec.toInt_eq_toNat_cond x
  have ey := BitVec.toInt_eq_toNat_cond y
  rw [if_pos (by omega)] at ex ey
  by_cases h : y.toNat < x.toNat
  · rw [if_pos (by rw [BitVec.slt_eq_decide]; simp; omega)]; omega
  · rw [if_neg (by rw [BitVec.slt_eq_decide]; simp; omega)]; omega

/-- The number the maximum chain ends on, from numbers that are below `2 ^ 31`. -/
theorem decide8_toNat (ev od : BitVec 32) (he : ∀ i < 4, field 8 i ev.toNat < 64) (ho : ∀ i < 4, field 8 i od.toNat < 64) :
    (decide8 ev od).toNat = 7 - (max (max (max (max (max (max (max 7 (8 * field 8 0 od.toNat + 6)) (8 * field 8 1 ev.toNat + 5))
      (8 * field 8 1 od.toNat + 4)) (8 * field 8 2 ev.toNat + 3)) (8 * field 8 2 od.toNat + 2)) (8 * field 8 3 ev.toNat + 1))
      (8 * field 8 3 od.toNat + 0)) % 8 := by
  have e1 := rated_toNat ev 8#32 5#32 1 (by decide) rfl (by decide) he
  have e2 := rated_toNat ev 16#32 3#32 2 (by decide) rfl (by decide) he
  have e3 := rated_toNat ev 24#32 1#32 3 (by decide) rfl (by decide) he
  have o0 := rated_toNat od 0#32 6#32 0 (by decide) rfl (by decide) ho
  have o1 := rated_toNat od 8#32 4#32 1 (by decide) rfl (by decide) ho
  have o2 := rated_toNat od 16#32 2#32 2 (by decide) rfl (by decide) ho
  have o3 := rated_toNat od 24#32 0#32 3 (by decide) rfl (by decide) ho
  have b := fun i hi => he i hi
  have step : ∀ (x y : BitVec 32) (n k : ℕ), x.toNat = n → n < 1024 → y.toNat = k → k < 1024 →
      (IntOp.maxsi x y).toNat = max n k ∧ max n k < 1024 := fun x y n k hx hn hy hk => by
    subst hx hy
    exact ⟨maxsi_toNat x y (by omega) (by omega), by omega⟩
  have s0 := step 7#32 _ 7 _ rfl (by decide) o0 (by have := ho 0 (by decide); simp; omega)
  have s1 := step _ _ _ _ s0.1 s0.2 e1 (by have := he 1 (by decide); simp; omega)
  have s2 := step _ _ _ _ s1.1 s1.2 o1 (by have := ho 1 (by decide); simp; omega)
  have s3 := step _ _ _ _ s2.1 s2.2 e2 (by have := he 2 (by decide); simp; omega)
  have s4 := step _ _ _ _ s3.1 s3.2 o2 (by have := ho 2 (by decide); simp; omega)
  have s5 := step _ _ _ _ s4.1 s4.2 e3 (by have := he 3 (by decide); simp; omega)
  have s6 := step _ _ _ _ s5.1 s5.2 o3 (by have := ho 3 (by decide); simp; omega)
  simp only [show (6#32 : BitVec 32).toNat = 6 from rfl, show (5#32 : BitVec 32).toNat = 5 from rfl,
    show (4#32 : BitVec 32).toNat = 4 from rfl, show (3#32 : BitVec 32).toNat = 3 from rfl,
    show (2#32 : BitVec 32).toNat = 2 from rfl, show (1#32 : BitVec 32).toNat = 1 from rfl,
    show (0#32 : BitVec 32).toNat = 0 from rfl] at s6
  rw [← s6.1, decide8]
  generalize IntOp.maxsi _ _ = B
  unfold IntOp.subi IntOp.andi
  rw [BitVec.toNat_sub, BitVec.toNat_and, show (7#32 : BitVec 32).toNat = 2 ^ 3 - 1 from rfl, Nat.and_two_pow_sub_one_eq_mod]
  omega

/-- A run's count is at most its length. -/
theorem among_le (l : Fin 35 → BitVec 32) (ps : List (Fin 35)) (c : ℕ) : among l ps c ≤ ps.length := List.countP_le_length

/-- The vote over labels below eight is the winner by votes. -/
theorem vote_wins (l : Fin 35 → BitVec 32) (hl : ∀ p, (l p).toNat < 8) :
    ∃ c : Fin 8, vote l = BitVec.ofNat 32 c ∧ Wins (votes l) c := by
  have f := fun ps h i hi => field_tally l hl ps h i hi
  have hA : runA.length ≤ 15 := by decide
  have hB : runB.length ≤ 15 := by decide
  have hC : runC.length ≤ 15 := by decide
  have hev : ∀ i < 4, field 8 i (evens (tally l runA) (tally l runB) (tally l runC)).toNat = among l (List.finRange 35) (2 * i) :=
    fun i hi => by
      rw [field_evens _ _ _ i hi, f _ hA _ (by omega), f _ hB _ (by omega), f _ hC _ (by omega), among_runs]
  have hod : ∀ i < 4, field 8 i (odds (tally l runA) (tally l runB) (tally l runC)).toNat = among l (List.finRange 35) (2 * i + 1) :=
    fun i hi => by
      rw [field_odds _ _ _ i hi, f _ hA _ (by omega), f _ hB _ (by omega), f _ hC _ (by omega), among_runs]
  have hle : ∀ c, among l (List.finRange 35) c < 64 := fun c =>
    lt_of_le_of_lt (among_le l _ c) (by rw [List.length_finRange]; decide)
  have hv := decide8_toNat _ _ (fun i hi => by rw [hev i hi]; exact hle _) (fun i hi => by rw [hod i hi]; exact hle _)
  rw [hev 1 (by decide), hev 2 (by decide), hev 3 (by decide), hod 0 (by decide), hod 1 (by decide), hod 2 (by decide),
    hod 3 (by decide)] at hv
  have r : ∀ c : Fin 8, c ≠ 0 → rank (votes l) c = 8 * among l (List.finRange 35) c + (7 - c) := fun c hc => by
    simp [rank, votes, hc]
  have r0 : rank (votes l) 0 = 7 := rfl
  have r1 := r 1 (by decide)
  have r2 := r 2 (by decide)
  have r3 := r 3 (by decide)
  have r4 := r 4 (by decide)
  have r5 := r 5 (by decide)
  have r6 := r 6 (by decide)
  have r7 := r 7 (by decide)
  obtain ⟨c, hc⟩ : ∃ c : Fin 8, Wins (votes l) c := (Finset.univ.exists_max_image (rank (votes l)) ⟨0, Finset.mem_univ _⟩).imp
    fun c h b => h.2 b (Finset.mem_univ _)
  refine ⟨c, ?_, hc⟩
  apply BitVec.eq_of_toNat_eq
  have hcl := c.isLt
  rw [BitVec.toNat_ofNat, Nat.mod_eq_of_lt (by omega), vote, hv]
  have hmod : rank (votes l) c % 8 = 7 - c := by unfold rank; omega
  have h0 := hc 0
  have h1 := hc 1
  have h2 := hc 2
  have h3 := hc 3
  have h4 := hc 4
  have h5 := hc 5
  have h6 := hc 6
  have h7 := hc 7
  norm_num at r1 r2 r3 r4 r5 r6 r7
  have hin : ∀ P : ℕ → Prop, P (rank (votes l) 0) ∨ P (rank (votes l) 1) ∨ P (rank (votes l) 2) ∨ P (rank (votes l) 3)
      ∨ P (rank (votes l) 4) ∨ P (rank (votes l) 5) ∨ P (rank (votes l) 6) ∨ P (rank (votes l) 7) ∨ ¬ P (rank (votes l) c) := by
    intro P
    clear * -
    fin_cases c <;> simp <;> tauto
  have hin := hin (rank (votes l) c ≤ ·)
  simp only [le_refl, not_true_eq_false, or_false] at hin
  rw [r0] at h0 hin
  rw [r1] at h1 hin
  rw [r2] at h2 hin
  rw [r3] at h3 hin
  rw [r4] at h4 hin
  rw [r5] at h5 hin
  rw [r6] at h6 hin
  rw [r7] at h7 hin
  norm_num only
  suffices hM : ∀ M : ℕ, M ≤ rank (votes l) c → rank (votes l) c ≤ M → 7 - M % 8 = c.val by
    refine hM _ ?_ ?_
    · simp only [max_le_iff]; exact ⟨⟨⟨⟨⟨⟨⟨h0, h1⟩, h2⟩, h3⟩, h4⟩, h5⟩, h6⟩, h7⟩
    · simp only [le_max_iff, or_assoc]; exact hin
  intro M a b
  have : M = rank (votes l) c := le_antisymm a b
  omega

end Cert.Vote

end
-- ==== Proof.Ref.lean ====
/-
  The reference's run and what it leaves: at every voxel the class of the largest count of points, class zero's count
  replaced by zero, the lowest class of a tie.
-/
module

public import proofs.«01_k».proof.Defs
public import proofs.«01_k».proof.Proof.Count
public import proofs.«01_k».proof.Proof.Gen.ReferenceIdeal
public import Idealize.ShloMosaic.Lib.Claim
public import Idealize.ShloMosaic.Lib.IdealHost
public import Idealize.ShloMosaic.Lib.Pointwise
public import Idealize.ShloMosaic.Lib.Quiescent
public import Idealize.ShloMosaic.Lib.Tactic.CleanTypes
public import Idealize.ShloMosaic.Lib.Routing.OpsPair
public import Idealize.ShloMosaic.Lib.Routing.OpsSet
public import Idealize.ShloMosaic.PureOps.Ideal.Laws

@[expose] public section

noncomputable section

namespace Cert.Proof.R

open Idealize.ShloMosaic Idealize.ShloMosaic.StableHlo Idealize.SL.Sem
open Cert.ReferenceIdeal Cert.ReferenceIdeal.Gen Cert.Vote

/-- The label words: the last feature of every point, as a word. -/
def labs (x : FVec Ideal S50000x35x8 .f32) : IVec S50000x35 32 :=
  fptosi 32 (shapeCast S50000x35 (extractStridedSlice S50000x35x1 ![0, 0, 7] x slices_S50000x35x8_S50000x35x1_0_0_7)
    shapeCasts_S50000x35x1_S50000x35)

/-- The one-hot encoding of the label words. -/
def oneHot (l : IVec S50000x35 32) : FVec Ideal S50000x35x8 .f32 :=
  uitofp .f32 (cmpi .eq
    (broadcastInDim S50000x35x8 ![0, 1, 2] bcast_S50000x35x1_S50000x35x8_0_1_2
      (broadcastInDim S50000x35x1 ![0, 1] bcast_S50000x35_S50000x35x1_0_1 l))
    (broadcastInDim S50000x35x8 ![0, 1, 2] bcast_S1x1x8_S50000x35x8_0_1_2 (iotaInDim S1x1x8 32 2)))

/-- The counts: the encoding summed over the points. -/
def counts (o : FVec Ideal S50000x35x8 .f32) : FVec Ideal S50000x8 .f32 :=
  Host.reduceAdd o (constant S_ .f32 0x00000000#32) reducesTo_S50000x35x8_S50000x8_d1 h_S_

/-- The counts with class zero's column set to zero. -/
def zeroed (n : FVec Ideal S50000x8 .f32) : FVec Ideal S50000x8 .f32 :=
  Host.scatter scatter_S50000x8_S1_S50000_0_1_1_0 (fun _ b => b) n
    (broadcastInDim S1 ![] bcast_S_S1 (constantI S_ 32 0#32))
    (broadcastInDim S50000 ![] bcast_S_S50000 (constant S_ .f32 0x00000000#32))

/-- The column of the largest entry of each row. -/
def best (z : FVec Ideal S50000x8 .f32) : IVec S50000 32 := fun j =>
  (Host.argReduce reducer_argmax_f32_i32 z (iotaInDim S50000x8 32 1) (constant S_ .f32 0xFF800000#32) (constantI S_ 32 0#32)
    reducesTo_S50000x8_S50000_d1 h_S_ j).2

/-- The reference's result as a function of its argument. -/
def answer (x : FVec Ideal S50000x35x8 .f32) : IVec S50000x1 32 :=
  shapeCast S50000x1 (best (zeroed (counts (oneHot (labs x))))) shapeCasts_S50000_S50000x1

set_option maxRecDepth 16384 in
/-- The reference ends with its answer in its result and its argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
        r.2.mem ((c.tc : Thread nD τ).loc main_v9) = answer (m ((c.tc : Thread nD τ).loc main_arg0))
        ∧ r.2.mem ((c.tc : Thread nD τ).loc main_arg0) = m ((c.tc : Thread nD τ).loc main_arg0) := by
  hlo_run
  unfold answer best zeroed counts oneHot labs
  clean_types
  simp only [TRef.ofBuf_toBuf]
  funext i
  have e8 : ∀ v : IVec S50000 32, (.of main_v8 : TRef sig ⟨S50000, .i32⟩).toBuf (Val := Elt Ideal) v = v := fun _ => rfl
  have e7 : ∀ v : FVec Ideal S50000x8 .f32, (.of main_v7 : TRef sig ⟨S50000x8, .f32⟩).ofBuf (Val := Elt Ideal) v = v := fun _ => rfl
  erw [e8, e7]
  rfl

/-- The reference leaves its argument unchanged and every semaphore counter at zero: it has none. -/
theorem frame : Cert.quiescent_ReferenceIdeal := fun m ρ _ =>
  (θ_run (defs (F := Ideal)) _ _).mono (fun _ h => ⟨fun c => (h c).2, sem_eq_zero_of_no_sems rfl _⟩) (run m ρ)

/-- A label word is the last feature of its point. -/
theorem labs_apply (x : FVec Ideal S50000x35x8 .f32) (n : Fin 50000) (p : Fin 35) :
    labs x (ix2 n p) = FloatOps.fptosi 32 (x (ix3 n p (7 : Fin 8)) : Ideal .f32) := by
  unfold labs
  simp only [pointwise]
  refine congrArg (fun i => (FloatOps.fptosi 32 (x i : Ideal .f32) : BitVec 32)) ?_
  funext a; apply Fin.ext
  match a with
  | ⟨0, _⟩ => exact Nat.zero_add _
  | ⟨1, _⟩ => exact Nat.zero_add _
  | ⟨2, _⟩ => rfl

/-- An entry of the encoding is one at the label's class and zero elsewhere. -/
theorem oneHot_apply (l : IVec S50000x35 32) (n : Fin 50000) (p : Fin 35) (c : Fin 8) :
    oneHot l (ix3 n p c) = if (l (ix2 n p)).toNat = c then (1 : EReal) else 0 := by
  have e : oneHot l (ix3 n p c) = (((IntOp.cmpi .eq (l (ix2 n p)) (BitVec.ofNat 32 c)).toNat : ℝ) : EReal) := by
    unfold oneHot
    simp only [pointwise]
    rfl
  have h : l (ix2 n p) = BitVec.ofNat 32 c ↔ (l (ix2 n p)).toNat = c := by
    have := c.isLt
    rw [← BitVec.toNat_inj, BitVec.toNat_ofNat, Nat.mod_eq_of_lt (by omega)]
  rw [e]
  by_cases hc : (l (ix2 n p)).toNat = c
  · rw [if_pos hc]; simp [IntOp.cmpi, h.2 hc]
  · rw [if_neg hc]; simp [IntOp.cmpi, mt h.1 hc]

/-- A count is the number of the voxel's points of the class. -/
theorem counts_apply (l : IVec S50000x35 32) (n : Fin 50000) (c : Fin 8) :
    counts (oneHot l) (ix2 n c) = ((among (fun p => l (ix2 n p)) (List.finRange 35) c : ℕ) : EReal) := by
  have e : counts (oneHot l) (ix2 n c) = 0 + ∑ p : Fin 35, oneHot l (ix3 n p c) := by
    unfold counts
    rw [ValueIdx.hostReduceAdd_apply, Ideal.hostReduceAdd_r3_a1]
    rw [show (constant S_ .f32 0x00000000#32 : FVec Ideal S_ .f32) (Shape.Idx.first h_S_) = 0 from Ideal.ofBits_zero_f32]
    rfl
  rw [e, zero_add, Finset.sum_congr rfl fun p _ => oneHot_apply l n p c, Finset.sum_boole]
  refine congrArg (fun k : ℕ => (k : EReal)) ?_
  unfold among
  rw [List.countP_eq_length_filter, ← List.toFinset_card_of_nodup ((List.nodup_finRange 35).filter _)]
  refine congrArg Finset.card (Finset.ext fun p => ?_)
  simp only [Finset.mem_filter, Finset.mem_univ, true_and, List.mem_toFinset, List.mem_filter, List.mem_finRange, decide_eq_true_eq]

/-- Class zero's column is zero, every other one is unchanged. -/
theorem zeroed_apply (v : FVec Ideal S50000x8 .f32) (n : Fin 50000) (c : Fin 8) :
    zeroed v (ix2 n c) = if c = 0 then (0 : EReal) else v (ix2 n c) := by
  have lands : ∀ k : S50000.Idx, scatter_S50000x8_S1_S50000_0_1_1_0.resultIdx? k
      (broadcastInDim S1 ![] bcast_S_S1 (constantI S_ 32 0#32)) = some (ix2 n c) ↔ (k 0).val = n.val ∧ (0 : ℕ) = c.val := fun k => by
    have hix : ix2 n c = ValueIdx.ix2 n c := by
      funext a
      match a with
      | ⟨0, _⟩ => rfl
      | ⟨1, _⟩ => rfl
    rw [hix, Routing.resultIdx?_ix2]
    have e : ∀ a b : ℕ, ((0 : ℤ) + (a : ℤ) = (b : ℤ)) ↔ a = b := fun a b => by omega
    exact and_congr (e _ _) (e 0 _)
  unfold zeroed
  by_cases hc : c = 0
  · rw [if_pos hc]
    exact Routing.scatter_set_hit _ _ _ _ _ (0 : EReal) (fun _ _ => Ideal.ofBits_zero_f32) (ix1 n) ((lands _).2 ⟨rfl, by rw [hc]; rfl⟩)
  · rw [if_neg hc, Routing.scatter_set_miss]
    intro k h
    exact hc (Fin.ext ((lands k).1 h).2.symm)

/-- A class's pair: its votes as an extended real, its number as a word. -/
def pr (v : Fin 8 → ℕ) (c : Fin 8) : Ideal .f32 × BitVec 32 := (((v c : ℕ) : EReal), BitVec.ofNat 32 c)

/-- The reducer keeps the pair of the higher rank. -/
theorem reducer_pr (v : Fin 8 → ℕ) (a b : Fin 8) :
    reducer_argmax_f32_i32 (F := Ideal) (pr v a) (pr v b) = pr v (if rank v b ≤ rank v a then a else b) := by
  have ha := a.isLt
  have hb := b.isLt
  have hlt : (BitVec.ofNat 32 a.val).slt (BitVec.ofNat 32 b.val) = decide (a < b) := by
    have h : ∀ c : Fin 8, (BitVec.ofNat 32 c.val).toInt = (c.val : ℤ) := by decide
    rw [BitVec.slt_eq_decide, h, h]
    simp
  unfold reducer_argmax_f32_i32 pr
  simp only [Ideal.cmpf_def, Ideal.cmp, IntOp.cmpi, hlt, ne_eq, not_true_eq_false, decide_false, Nat.cast_lt, Nat.cast_inj,
    EReal.natCast_lt_iff, EReal.natCast_eq_iff]
  unfold rank
  rcases Nat.lt_trichotomy (v b) (v a) with h | h | h
  · rw [if_pos (by omega)]
    simp [h, Nat.ne_of_gt h, IntOp.ori, IntOp.andi, Scalar.select]
  · rcases Nat.lt_trichotomy a.val b.val with k | k | k
    · rw [if_pos (by omega)]
      simp [h, Fin.lt_def, k, IntOp.ori, IntOp.andi, Scalar.select]
    · rw [if_pos (by omega)]
      simp [h, Fin.lt_def, k, IntOp.ori, IntOp.andi, Scalar.select]
    · rw [if_neg (by omega)]
      simp [h, Fin.lt_def, Nat.not_lt.2 k.le, IntOp.ori, IntOp.andi, Scalar.select]
  · rw [if_neg (by omega)]
    simp [Nat.not_lt.2 h.le, Nat.ne_of_lt h, IntOp.ori, IntOp.andi, Scalar.select]

/-- From the start, below every count, the reducer takes the pair. -/
theorem reducer_start (v : Fin 8 → ℕ) (b : Fin 8) :
    reducer_argmax_f32_i32 (F := Ideal) (⊥, 0#32) (pr v b) = pr v b := by
  unfold reducer_argmax_f32_i32 pr
  have h : ∀ n : ℕ, (⊥ : EReal) ≠ (n : EReal) := fun n => (EReal.bot_lt_coe _).ne
  simp [Ideal.cmpf_def, Ideal.cmp, IntOp.cmpi, h, IntOp.ori, IntOp.andi, Scalar.select]

/-- The reducer over a list of classes' pairs, from a class's pair: a class of rank at least every one met. -/
theorem foldl_pr (v : Fin 8 → ℕ) (L : List (Ideal .f32 × BitVec 32)) (hL : ∀ q ∈ L, ∃ k, q = pr v k) :
    ∀ a, ∃ a', L.foldl (reducer_argmax_f32_i32 (F := Ideal)) (pr v a) = pr v a' ∧ rank v a ≤ rank v a'
      ∧ ∀ k, pr v k ∈ L → rank v k ≤ rank v a' := by
  induction L with
  | nil => exact fun a => ⟨a, rfl, le_rfl, fun _ h => nomatch h⟩
  | cons q L ih =>
    intro a
    obtain ⟨b, rfl⟩ := hL q (List.mem_cons_self ..)
    obtain ⟨a', h1, h2, h3⟩ := ih (fun q hq => hL q (List.mem_cons_of_mem _ hq)) (if rank v b ≤ rank v a then a else b)
    refine ⟨a', by rw [List.foldl_cons, reducer_pr, h1], ?_, fun k hk => ?_⟩
    · refine le_trans ?_ h2; split <;> omega
    · rcases List.mem_cons.1 hk with h | h
      · have : k = b := by
          have hk8 := k.isLt
          have hb8 := b.isLt
          have := congrArg (fun q => BitVec.toNat q.2) h
          simp only [pr, BitVec.toNat_ofNat] at this
          apply Fin.ext; omega
        subst this
        refine le_trans ?_ h2; split <;> omega
      · exact h3 k h

/-- The row's best column is the winner by votes. -/
theorem best_wins (z : FVec Ideal S50000x8 .f32) (v : Fin 8 → ℕ) (n : Fin 50000) (hz : ∀ c : Fin 8, z (ix2 n c) = ((v c : ℕ) : EReal)) :
    ∃ c : Fin 8, best z (ix1 n) = BitVec.ofNat 32 c ∧ Wins v c := by
  have mem : ∀ q, q ∈ Host.argReduceFiber z (iotaInDim S50000x8 32 1) reducesTo_S50000x8_S50000_d1 (ix1 n) ↔ ∃ k, q = pr v k := fun q => by
    unfold Host.argReduceFiber
    simp only [List.mem_map, List.mem_filter, List.mem_finRange, true_and, decide_eq_true_eq]
    constructor
    · rintro ⟨t, ht, rfl⟩
      obtain ⟨k, hk⟩ := (Shape.ReducesTo.fiber_r2_a1 _ _ _).1 ht
      refine ⟨k, ?_⟩
      rw [← hk]
      exact Prod.ext (hz k) rfl
    · rintro ⟨k, rfl⟩
      refine ⟨S50000x8.rowMajor (ix2 n k), ?_, ?_⟩
      · rw [Equiv.symm_apply_apply]; exact (Shape.ReducesTo.fiber_r2_a1 _ _ _).2 ⟨k, rfl⟩
      · rw [Equiv.symm_apply_apply]; exact Prod.ext (hz k) rfl
  have e : best z (ix1 n) = ((Host.argReduceFiber z (iotaInDim S50000x8 32 1) reducesTo_S50000x8_S50000_d1 (ix1 n)).foldl
      (reducer_argmax_f32_i32 (F := Ideal)) (⊥, 0#32)).2 := by
    unfold best
    rw [Ideal.argReduce_eq_reduce2, Host.reduce2_eq_foldl_fiber]
    rw [show (constant S_ .f32 0xFF800000#32 : FVec Ideal S_ .f32) (Shape.Idx.first h_S_) = (⊥ : EReal) by
      simp [constant, Ideal.ofBits, Ideal.ieee]]
    rfl
  rw [e]
  generalize Host.argReduceFiber z (iotaInDim S50000x8 32 1) reducesTo_S50000x8_S50000_d1 (ix1 n) = L at mem
  cases L with
  | nil => exact nomatch (mem (pr v 0)).2 ⟨0, rfl⟩
  | cons q L =>
    obtain ⟨b, rfl⟩ := (mem q).1 (List.mem_cons_self ..)
    obtain ⟨a', h1, h2, h3⟩ := foldl_pr v (pr v b :: L) (fun q hq => (mem q).1 hq) b
    refine ⟨a', ?_, fun k => h3 k ((mem _).2 ⟨k, rfl⟩)⟩
    rw [List.foldl_cons, reducer_pr, if_pos le_rfl] at h1
    rw [List.foldl_cons, reducer_start, h1]
    rfl

/-- The reference's answer at a voxel is the winner by votes among its points' label words. -/
theorem answer_wins (x : FVec Ideal S50000x35x8 .f32) (n : Fin 50000) (u : Fin 1) :
    ∃ c : Fin 8, answer x (ix2 n u) = BitVec.ofNat 32 c
      ∧ Wins (votes fun p => FloatOps.fptosi 32 (x (ix3 n p (7 : Fin 8)) : Ideal .f32)) c := by
  have e : answer x (ix2 n u) = best (zeroed (counts (oneHot (labs x)))) (ix1 n) := by
    unfold answer
    simp only [pointwise]
  rw [e]
  refine best_wins _ _ n fun c => ?_
  rw [zeroed_apply, counts_apply]
  unfold votes
  simp only [labs_apply]
  split <;> simp

end Cert.Proof.R

end
-- ==== Proof.lean ====
/-
  The proof of `Cert.Claim` (proofs.«01_k».proof.Defs): the kernel's run, the reference's run, and the equality of the
  classes they compute.
-/
module

public import proofs.«01_k».proof.Defs
public import proofs.«01_k».proof.Proof.Launch
public import proofs.«01_k».proof.Proof.Ref
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_labels_in_range
public import Idealize.ShloMosaic.Adequacy
public import Idealize.ShloMosaic.Init
public import Idealize.ShloMosaic.Lib.ReduceAll

@[expose] public section

noncomputable section

namespace Cert.Proof

open Idealize.ShloMosaic Idealize.SL.Sem Cert.Vote

/-- The kernel's program over bit patterns runs, leaves its argument unchanged and every semaphore counter at zero. -/
theorem frame_kernel : Cert.quiescent_Kernel := fun m ρ _ =>
  (θ_run (Cert.KernelIdeal.defs (F := Bits)) _ _).mono (fun _ h => ⟨fun c => (h.1 c).1, h.2⟩) (K.run_main (F := Bits) m ρ)

/-- The same program over extended reals does. -/
theorem frame_ideal : Cert.quiescent_KernelIdeal := fun m ρ _ =>
  (θ_run (Cert.KernelIdeal.defs (F := Ideal)) _ _).mono (fun _ h => ⟨fun c => (h.1 c).1, h.2⟩) (K.run_main (F := Ideal) m ρ)

/-- Where the precondition holds every label word is a number below eight. -/
theorem labels_lt (x : FVec Ideal Cert.ReferenceIdeal.S50000x35x8 .f32)
    (h : Cert.Pre_labels_in_range.fn (F := Ideal) x = fun _ => 1#1) (n : Fin 50000) (p : Fin 35) :
    (FloatOps.fptosi 32 (x (ix3 n p (7 : Fin 8)) : Ideal .f32) : BitVec 32).toNat < 8 := by
  have : Subsingleton Cert.Pre_labels_in_range.S_.Idx := ⟨fun a b => funext fun i => i.elim0⟩
  have e := congrFun h (fun i => i.elim0)
  dsimp only [Cert.Pre_labels_in_range.fn] at e
  have e := Host.reduce_andi_all _ _ _ _ _ e (ix2 n p)
  have hl : (IntOp.andi (IntOp.cmpi .sge (R.labs x (ix2 n p)) 0#32) (IntOp.cmpi .slt (R.labs x (ix2 n p)) 8#32)) = 1#1 := e
  rw [R.labs_apply] at hl
  generalize (FloatOps.fptosi 32 (x (ix3 n p (7 : Fin 8)) : Ideal .f32) : BitVec 32) = l at hl
  obtain ⟨h1, h2⟩ := IntOp.andi_eq_one.1 hl
  simp only [IntOp.cmpi, WordCmp.ofBool_eq_one_iff, BitVec.sle_eq_decide, BitVec.slt_eq_decide, decide_eq_true_eq,
    BitVec.toInt_eq_toNat_cond, BitVec.toNat_ofNat, Nat.reducePow, Nat.reduceMod] at h1 h2
  omega

/-- A point's feature in the transposed copy is the argument's. -/
theorem tv_apply (m : (ℓ : Loc Cert.KernelIdeal.nD Cert.KernelIdeal.τ Cert.KernelIdeal.sig) → Buf (Elt Ideal) ℓ)
    (d : Dev Cert.KernelIdeal.nD) (n : Fin 50000) (p : Fin 35) :
    K.tv m d (ValueIdx.ix3 p (7 : Fin 8) n)
      = (m (K.xLoc d) : FVec Ideal Cert.ReferenceIdeal.S50000x35x8 .f32) (ix3 n p (7 : Fin 8)) :=
  transpose_apply _ _ _ _ _ fun c => match c with | ⟨0, _⟩ => rfl | ⟨1, _⟩ => rfl | ⟨2, _⟩ => rfl

/-- Where the precondition holds the kernel's classes are the reference's. -/
theorem col_eq (m : (ℓ : Loc Cert.KernelIdeal.nD Cert.KernelIdeal.τ Cert.KernelIdeal.sig) → Buf (Elt Ideal) ℓ)
    (d : Dev Cert.KernelIdeal.nD) (h : Cert.Pre_labels_in_range.fn (F := Ideal) (m (K.xLoc d)) = fun _ => 1#1) :
    K.col m d = R.answer (m (K.xLoc d)) := by
  funext i
  obtain ⟨n, u, rfl⟩ : ∃ (n : Fin 50000) (u : Fin 1), i = ix2 n u := ⟨i 0, i 1, eq_ix2 i⟩
  have e : K.col m d (ix2 n u) = K.resAt m d n := by
    unfold K.col
    simp only [pointwise]
    rfl
  have e' : K.resAt m d n = vote fun p =>
      FloatOps.fptosi (F := Ideal) (φ := .f32) 32 ((m (K.xLoc d) : FVec Ideal Cert.ReferenceIdeal.S50000x35x8 .f32) (ix3 n p (7 : Fin 8))) :=
    congrArg vote (funext fun p => congrArg (FloatOps.fptosi (F := Ideal) (φ := .f32) 32) (tv_apply m d n p))
  obtain ⟨a, ha, wa⟩ := R.answer_wins (m (K.xLoc d)) n u
  obtain ⟨b, hb, wb⟩ := vote_wins _ fun p => labels_lt _ h n p
  refine (e.trans (e'.trans hb)).trans ?_
  rw [wb.unique wa]
  exact ha.symm

/-- The kernel's program and the reference, over extended reals, end with equal classes. -/
theorem equal : Cert.algebraic_KernelIdeal_ReferenceIdeal_pre_labels_in_range := by
  intro m g m' g' hpre hagree
  refine ⟨fun c => K.col m c, ?_, ?_⟩
  · exact (θ_run (Cert.KernelIdeal.defs (F := Ideal)) _ _).mono (fun _ h c => ⟨(h.1 c).2, (h.1 c).1⟩) (K.run_main (F := Ideal) m g)
  · refine (θ_run (Cert.ReferenceIdeal.defs (F := Ideal)) _ _).mono (fun _ h c => ⟨(h c).1.trans ?_, (h c).2⟩) (R.run m' g')
    rw [hagree c]
    exact (col_eq m c (hpre c)).symm

theorem claim : Cert.Claim := ⟨Cert.Kernel.Gen.facts, Cert.KernelIdeal.Gen.facts, Cert.ReferenceIdeal.Gen.facts, Cert.Pre_labels_in_range.Gen.facts,
  frame_kernel, frame_ideal, fun m ρ _ => frame_ideal m ρ trivial, R.frame, fun m ρ _ => R.frame m ρ trivial, trivial, equal⟩

end Cert.Proof

end
